-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unambiguous [hPre_unambiguous : Cert.Pre_unambiguous.Facts] (m : (ℓ : Loc Cert.KernelIdeal.nD Cert.KernelIdeal.τ Cert.KernelIdeal.sig) → Buf (Elt Ideal) ℓ) : Prop :=
  ∀ c : Dev Cert.KernelIdeal.nD,
    (Cert.Pre_unambiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unambiguous [hPre_unambiguous : Cert.Pre_unambiguous.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unambiguous.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unambiguous [hKernelIdeal : Cert.KernelIdeal.Facts] [hPre_unambiguous : Cert.Pre_unambiguous.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unambiguous m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unambiguous [hReferenceIdeal : Cert.ReferenceIdeal.Facts] [hPre_unambiguous : Cert.Pre_unambiguous.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unambiguous m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unambiguous [hKernelIdeal : Cert.KernelIdeal.Facts] [hReferenceIdeal : Cert.ReferenceIdeal.Facts] [hPre_unambiguous : Cert.Pre_unambiguous.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unambiguous m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unambiguous : Cert.Pre_unambiguous.Facts),
    quiescent_Kernel (hKernel := hKernel)
    ∧ quiescent_KernelIdeal (hKernelIdeal := hKernelIdeal)
    ∧ quiescent_KernelIdeal_pre_unambiguous (hKernelIdeal := hKernelIdeal) (hPre_unambiguous := hPre_unambiguous)
    ∧ quiescent_ReferenceIdeal (hReferenceIdeal := hReferenceIdeal)
    ∧ quiescent_ReferenceIdeal_pre_unambiguous (hReferenceIdeal := hReferenceIdeal) (hPre_unambiguous := hPre_unambiguous)
    ∧ preserves_Kernel_KernelIdeal
    ∧ algebraic_KernelIdeal_ReferenceIdeal_pre_unambiguous (hKernelIdeal := hKernelIdeal) (hReferenceIdeal := hReferenceIdeal) (hPre_unambiguous := hPre_unambiguous)
-- ==== Pre_unambiguous.lean ====
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S16x4096 : Shape := ⟨2, ![16, 4096]⟩
abbrev S4096x4096 : Shape := ⟨2, ![4096, 4096]⟩
abbrev S4096x5 : Shape := ⟨2, ![4096, 5]⟩
abbrev S4096x4 : Shape := ⟨2, ![4096, 4]⟩

class Facts : Prop where
  reducesTo_S4096x16_S4096_d1 : S4096x16.ReducesTo [1] S4096
  h_S_ : 0 < S_.numel
  bcast_S4096_S4096x1_0 : S4096.BroadcastsInDim S4096x1 (![0] : Fin 1 → Fin S4096x1.rank)
  bcast_S4096x1_S4096x16_0_1 : S4096x1.BroadcastsInDim S4096x16 (![0, 1] : Fin 2 → Fin S4096x16.rank)
  transposes_S4096x16_S16x4096_1_0 : S4096x16.Transposes [1, 0] S16x4096
  bcast_S_S4096x4096 : S_.BroadcastsInDim S4096x4096 (![] : Fin 0 → Fin S4096x4096.rank)
  sliceFits_S4096x4096_S4096x5 : S4096x4096.Slices (fun _ => 0) S4096x5
  bcast_S_S4096 : S_.BroadcastsInDim S4096 (![] : Fin 0 → Fin S4096.rank)
  reducesTo_S4096_S_d0 : S4096.ReducesTo [0] S_
  slices_S4096x5_S4096x4_0_0 : S4096x5.Slices ![0, 0] S4096x4
  slices_S4096x5_S4096x4_0_1 : S4096x5.Slices ![0, 1] S4096x4
  reducesTo_S4096x4_S_d0_1 : S4096x4.ReducesTo [0, 1] S_
  dot_S4096x16_S16x4096_S4096x4096_1_0_0_1_n_n_wf : DotDims.WF S4096x16 S16x4096 S4096x4096 [1] [0] [0] [1] [] []

variable [Facts]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def fn_norm {F : FTy → Type} [FloatOps F] (arg0 : FVec F S4096x16 .f32) : FVec F S4096 .f32 :=
  let v0 : FVec F S4096x16 .f32 := mulf arg0 arg0
  let cst : FVec F S_ .f32 := constant S_ .f32 0x00000000#32
  let v1 : FVec F S4096 .f32 := (fun x v => Host.reduceAdd x v reducesTo_S4096x16_S4096_d1 h_S_) v0 cst
  let v2 : FVec F S4096 .f32 := Host.sqrt v1
  v2

def fn_norm_0 {F : FTy → Type} [FloatOps F] (arg0 : FVec F S4096x16 .f32) : FVec F S4096x1 .f32 :=
  let v0 : FVec F S4096x16 .f32 := mulf arg0 arg0
  let cst : FVec F S_ .f32 := constant S_ .f32 0x00000000#32
  let v1 : FVec F S4096 .f32 := (fun x v => Host.reduceAdd x v reducesTo_S4096x16_S4096_d1 h_S_) v0 cst
  let v2 : FVec F S4096x1 .f32 := broadcastInDim S4096x1 ![0] bcast_S4096_S4096x1_0 v1
  let v3 : FVec F S4096x1 .f32 := Host.sqrt v2
  v3

def fn_part2 {F : FTy → Type} [FloatOps F] (main_values : FVec F S4096x5 .f32) (main_v34 : IVec S_ 1) (main_v35 : FVec F S4096x4 .f32) : IVec S_ 1 :=
  let main_v36 : FVec F S4096x4 .f32 := (extractStridedSlice S4096x4 ![0, 1] · slices_S4096x5_S4096x4_0_1) main_values
  let main_v37 : IVec S4096x4 1 := cmpf .ogt main_v35 main_v36
  let main_c_8 : IVec S_ 1 := constantI S_ 1 1#1
  let main_v38 : IVec S_ 1 := (fun x v => Host.reduce IntOp.andi x v reducesTo_S4096x4_S_d0_1 h_S_) main_v37 main_c_8
  let main_v39 : IVec S_ 1 := andi main_v34 main_v38
  main_v39

def fn_part1 {F : FTy → Type} [FloatOps F] (main_v0 : FVec F S4096 .f32) (main_v1 : FVec F S4096 .f32) (main_values : FVec F S4096x5 .f32) (main_cst_0 : FVec F S_ .f32) : IVec S_ 1 :=
  let main_v19 : FVec F S4096 .f32 := broadcastInDim S4096 ![] bcast_S_S4096 main_cst_0
  let main_v20 : IVec S4096 1 := cmpf .oge main_v0 main_v19
  let main_c_1 : IVec S_ 1 := constantI S_ 1 1#1
  let main_v21 : IVec S_ 1 := (fun x v => Host.reduce IntOp.andi x v reducesTo_S4096_S_d0 h_S_) main_v20 main_c_1
  let main_cst_2 : FVec F S_ .f32 := constant S_ .f32 0x7F800000#32
  let main_v22 : FVec F S4096 .f32 := broadcastInDim S4096 ![] bcast_S_S4096 main_cst_2
  let main_v23 : IVec S4096 1 := cmpf .olt main_v0 main_v22
  let main_c_3 : IVec S_ 1 := constantI S_ 1 1#1
  let main_v24 : IVec S_ 1 := (fun x v => Host.reduce IntOp.andi x v reducesTo_S4096_S_d0 h_S_) main_v23 main_c_3
  let main_v25 : IVec S_ 1 := andi main_v21 main_v24
  let main_v26 : FVec F S4096 .f32 := mulf main_v0 main_v1
  let main_cst_4 : FVec F S_ .f32 := constant S_ .f32 0x322BCC77#32
  let main_v27 : FVec F S4096 .f32 := broadcastInDim S4096 ![] bcast_S_S4096 main_cst_4
  let main_v28 : IVec S4096 1 := cmpf .oge main_v26 main_v27
  let main_c_5 : IVec S_ 1 := constantI S_ 1 1#1
  let main_v29 : IVec S_ 1 := (fun x v => Host.reduce IntOp.andi x v reducesTo_S4096_S_d0 h_S_) main_v28 main_c_5
  let main_v30 : IVec S_ 1 := andi main_v25 main_v29
  let main_cst_6 : FVec F S_ .f32 := constant S_ .f32 0x7F800000#32
  let main_v31 : FVec F S4096 .f32 := broadcastInDim S4096 ![] bcast_S_S4096 main_cst_6
  let main_v32 : IVec S4096 1 := cmpf .olt main_v1 main_v31
  let main_c_7 : IVec S_ 1 := constantI S_ 1 1#1
  let main_v33 : IVec S_ 1 := (fun x v => Host.reduce IntOp.andi x v reducesTo_S4096_S_d0 h_S_) main_v32 main_c_7
  let main_v34 : IVec S_ 1 := andi main_v30 main_v33
  let main_v35 : FVec F S4096x4 .f32 := (extractStridedSlice S4096x4 ![0, 0] · slices_S4096x5_S4096x4_0_0) main_values
  fn_part2 (F := F) main_values main_v34 main_v35

def fn {F : FTy → Type} [FloatOps F] (main_arg0 : FVec F S4096x16 .f32) (main_arg1 : FVec F S4096x16 .f32) : IVec S_ 1 :=
  let main_v0 : FVec F S4096 .f32 := fn_norm (F := F) main_arg0
  let main_v1 : FVec F S4096 .f32 := fn_norm (F := F) main_arg1
  let main_v2 : FVec F S4096x1 .f32 := fn_norm_0 (F := F) main_arg0
  let main_v3 : FVec F S4096x16 .f32 := broadcastInDim S4096x16 ![0, 1] bcast_S4096x1_S4096x16_0_1 main_v2
  let main_v4 : FVec F S4096x16 .f32 := Host.divf main_arg0 main_v3
  let main_v5 : FVec F S4096x1 .f32 := fn_norm_0 (F := F) main_arg1
  let main_v6 : FVec F S4096x16 .f32 := broadcastInDim S4096x16 ![0, 1] bcast_S4096x1_S4096x16_0_1 main_v5
  let main_v7 : FVec F S4096x16 .f32 := Host.divf main_arg1 main_v6
  let main_v8 : FVec F S16x4096 .f32 := (transpose S16x4096 [1, 0] · transposes_S4096x16_S16x4096_1_0) main_v7
  let main_v9 : FVec F S4096x4096 .f32 := (fun l r => Host.dotGeneral dot_S4096x16_S16x4096_S4096x4096_1_0_0_1_n_n none l r) main_v4 main_v8
  let main_cst : FVec F S_ .f32 := constant S_ .f32 0x3F800000#32
  let main_v10 : FVec F S4096x4096 .f32 := broadcastInDim S4096x4096 ![] bcast_S_S4096x4096 main_cst
  let main_v11 : IVec S4096x4096 32 := iotaInDim S4096x4096 32 0
  let main_v12 : IVec S4096x4096 32 := iotaInDim S4096x4096 32 1
  let main_c : IVec S_ 32 := constantI S_ 32 0#32
  let main_v13 : IVec S4096x4096 32 := broadcastInDim S4096x4096 ![] bcast_S_S4096x4096 main_c
  let main_v14 : IVec S4096x4096 32 := addi main_v11 main_v13
  let main_v15 : IVec S4096x4096 1 := cmpi .eq main_v14 main_v12
  let main_v16 : FVec F S4096x4096 .f32 := uitofp .f32 main_v15
  let main_v17 : FVec F S4096x4096 .f32 := subf main_v10 main_v16
  let main_v18 : FVec F S4096x4096 .f32 := mulf main_v9 main_v17
  let main_values : FVec F S4096x5 .f32 := (fun x => (Host.topK S4096x5 1 (FloatOps.cmpfTotal .gt) x sliceFits_S4096x4096_S4096x5).1) main_v18
  let main_indices : IVec S4096x5 32 := (fun x => (Host.topK S4096x5 1 (FloatOps.cmpfTotal .gt) x sliceFits_S4096x4096_S4096x5).2) main_v18
  let main_cst_0 : FVec F S_ .f32 := constant S_ .f32 0x322BCC77#32
  fn_part1 (F := F) main_v0 main_v1 main_values main_cst_0
-- ==== Kernel.lean ====
abbrev S4096x16 : Shape := ⟨2, ![4096, 16]⟩
abbrev S16x4096 : Shape := ⟨2, ![16, 4096]⟩
abbrev S1x1 : Shape := ⟨2, ![1, 1]⟩
abbrev S16x1024 : Shape := ⟨2, ![16, 1024]⟩
abbrev S4096x1024 : Shape := ⟨2, ![4096, 1024]⟩
abbrev S4096 : Shape := ⟨1, ![4096]⟩
abbrev S1x4096 : Shape := ⟨2, ![1, 4096]⟩
abbrev S1024 : Shape := ⟨1, ![1024]⟩
abbrev S1x1024 : Shape := ⟨2, ![1, 1024]⟩
abbrev S1024x1024 : Shape := ⟨2, ![1024, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S16x4096, .f32⟩
  | .hbm, ⟨3, _⟩ => ⟨S16x4096, .f32⟩
  | .hbm, ⟨4, _⟩ => ⟨S1x1, .f32⟩
  | .local _ .vmem, ⟨0, _⟩ => ⟨S16x1024, .f32⟩
  | .local _ .vmem, ⟨1, _⟩ => ⟨S16x1024, .f32⟩
  | .local _ .vmem, ⟨2, _⟩ => ⟨S16x4096, .f32⟩
  | .local _ .vmem, ⟨3, _⟩ => ⟨S16x1024, .f32⟩
  | .local _ .vmem, ⟨4, _⟩ => ⟨S16x1024, .f32⟩
  | .local _ .vmem, ⟨5, _⟩ => ⟨S1x1, .f32⟩
  | .local _ .vmem, ⟨6, _⟩ => ⟨S16x4096, .bf16⟩
  | .local _ .vmem, ⟨7, _⟩ => ⟨S4096x1024, .bf16⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v21 : BitVec 32 := Scalar.muli arg0 c1024_i32
  let v22 : Index := Scalar.indexCast v21
  let c0_7 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S16x4096 : Shape := ⟨2, ![16, 4096]⟩
abbrev S4096x4096 : Shape := ⟨2, ![4096, 4096]⟩
abbrev S4096x4 : Shape := ⟨2, ![4096, 4]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩
abbrev S4096x1x16 : Shape := ⟨3, ![4096, 1, 16]⟩
abbrev S4096x1x4x16 : Shape := ⟨4, ![4096, 1, 4, 16]⟩
abbrev S4096x4x16 : Shape := ⟨3, ![4096, 4, 16]⟩
abbrev S20480 : Shape := ⟨1, ![20480]⟩

abbrev nBuf : Space → Nat
  | .hbm => 114
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x16, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S4096x16, .f32⟩
  | .hbm, ⟨15, _⟩ => ⟨S4096x16, .f32⟩
  | .hbm, ⟨16, _⟩ => ⟨S16x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4, .f32⟩
  | .hbm, ⟨30, _⟩ => ⟨S4096x4, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S1, .i32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S1x1, .i32⟩
  | .hbm, ⟨45, _⟩ => ⟨S16384x1, .i32⟩
  | .hbm, ⟨46, _⟩ => ⟨S16384x1, .i1⟩
  | .hbm, ⟨47, _⟩ => ⟨S16384x1, .i1⟩
  | .hbm, ⟨48, _⟩ => ⟨S_, .i1⟩
  | .hbm, ⟨49, _⟩ => ⟨S16384, .i1⟩
  | .hbm, ⟨50, _⟩ => ⟨S16384x16, .f32⟩
  | .hbm, ⟨51, _⟩ => ⟨S16384x16, .i1⟩
  | .hbm, ⟨52, _⟩ => ⟨S_, .f32⟩
  | .hbm, ⟨53, _⟩ => ⟨S16384x16, .f32⟩
  | .hbm, ⟨54, _⟩ => ⟨S16384x16, .f32⟩
  | .hbm, ⟨55, _⟩ => ⟨S4096x1x16, .f32⟩
  | .hbm, ⟨56, _⟩ => ⟨S4096x1x4x16, .f32⟩
  | .hbm, ⟨57, _⟩ => ⟨S4096x4x16, .f32⟩
  | .hbm, ⟨58, _⟩ => ⟨S16384x16, .f32⟩
  | .hbm, ⟨59, _⟩ => ⟨S4096x16, .f32⟩
  | .hbm, ⟨60, _⟩ => ⟨S_, .f32⟩
  | .hbm, ⟨61, _⟩ => ⟨S4096, .f32⟩
  | .hbm, ⟨62, _⟩ => ⟨S4096x16, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x16, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S16384x16, .f32⟩
  | .hbm, ⟨77, _⟩ => ⟨S_, .f32⟩
  | .hbm, ⟨78, _⟩ => ⟨S16384, .f32⟩
  | .hbm, ⟨79, _⟩ => ⟨S16384x16, .f32⟩
  | .hbm, ⟨80, _⟩ => ⟨S_, .f32⟩
  | .hbm, ⟨81, _⟩ => ⟨S16384, .f32⟩
  | .hbm, ⟨82, _⟩ => ⟨S16384, .f32⟩
  | .hbm, ⟨83, _⟩ => ⟨S16384x16, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S16384, .f32⟩
  | .hbm, ⟨88, _⟩ => ⟨S_, .f32⟩
  | .hbm, ⟨89, _⟩ => ⟨S_, .f32⟩
  | .hbm, ⟨90, _⟩ => ⟨S16384, .f32⟩
  | .hbm, ⟨91, _⟩ => ⟨S16384, .f32⟩
  | .hbm, ⟨92, _⟩ => ⟨S16384, .f32⟩
  | .hbm, ⟨93, _⟩ => ⟨S20480, .f32⟩
  | .hbm, ⟨94, _⟩ => ⟨S_, .f32⟩
  | .hbm, ⟨95, _⟩ => ⟨S4096, .f32⟩
  | .hbm, ⟨96, _⟩ => ⟨S_, .f32⟩
  | .hbm, ⟨97, _⟩ => ⟨S16384, .f32⟩
  | .hbm, ⟨98, _⟩ => ⟨S20480, .f32⟩
  | .hbm, ⟨99, _⟩ => ⟨S_, .f32⟩
  | .hbm, ⟨100, _⟩ => ⟨S20480, .f32⟩
  | .hbm, ⟨101, _⟩ => ⟨S20480, .f32⟩
  | .hbm, ⟨102, _⟩ => ⟨S20480, .f32⟩
  | .hbm, ⟨103, _⟩ => ⟨S20480, .f32⟩
  | .hbm, ⟨104, _⟩ => ⟨S20480, .f32⟩
  | .hbm, ⟨105, _⟩ => ⟨S20480, .f32⟩
  | .hbm, ⟨106, _⟩ => ⟨S20480, .f32⟩
  | .hbm, ⟨107, _⟩ => ⟨S20480, .f32⟩
  | .hbm, ⟨108, _⟩ => ⟨S20480, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S1x1, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_values : Ref sig .tc := ⟨.hbm, 29, rfl⟩
abbrev main_indices : Ref sig .tc := ⟨.hbm, 30, rfl⟩
abbrev main_v17 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_0 : Ref sig .tc := ⟨.hbm, 60, rfl⟩
abbrev main_v24 : Ref sig .tc := ⟨.hbm, 61, rfl⟩
abbrev main_call3_v0 : Ref sig .tc := ⟨.hbm, 62, rfl⟩
abbrev main_call3_cst : Ref sig .tc := ⟨.hbm, 63, rfl⟩
abbrev main_call3_v1 : Ref sig .tc := ⟨.hbm, 64, rfl⟩
abbrev main_v25 : Ref sig .tc := ⟨.hbm, 65, rfl⟩
abbrev main_call4_v0 : Ref sig .tc := ⟨.hbm, 66, rfl⟩
abbrev main_call4_cst : Ref sig .tc := ⟨.hbm, 67, rfl⟩
abbrev main_call4_v1 : Ref sig .tc := ⟨.hbm, 68, rfl⟩
abbrev main_v26 : Ref sig .tc := ⟨.hbm, 69, rfl⟩
abbrev main_v27 : Ref sig .tc := ⟨.hbm, 70, rfl⟩
abbrev main_cst_1 : Ref sig .tc := ⟨.hbm, 71, rfl⟩
abbrev main_call5_v0 : Ref sig .tc := ⟨.hbm, 72, rfl⟩
abbrev main_call5_v1 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_cst_2 : Ref sig .tc := ⟨.hbm, 77, rfl⟩
abbrev main_v31 : Ref sig .tc := ⟨.hbm, 78, rfl⟩
abbrev main_call6_v0 : Ref sig .tc := ⟨.hbm, 79, rfl⟩
abbrev main_call6_cst : Ref sig .tc := ⟨.hbm, 80, rfl⟩
abbrev main_call6_v1 : Ref sig .tc := ⟨.hbm, 81, rfl⟩
abbrev main_v32 : Ref sig .tc := ⟨.hbm, 82, rfl⟩
abbrev main_call7_v0 : Ref sig .tc := ⟨.hbm, 83, rfl⟩
abbrev main_call7_cst : Ref sig .tc := ⟨.hbm, 84, rfl⟩
abbrev main_call7_v1 : Ref sig .tc := ⟨.hbm, 85, rfl⟩
abbrev main_v33 : Ref sig .tc := ⟨.hbm, 86, rfl⟩
abbrev main_v34 : Ref sig .tc := ⟨.hbm, 87, rfl⟩
abbrev main_cst_3 : Ref sig .tc := ⟨.hbm, 88, rfl⟩
abbrev main_call8_v0 : Ref sig .tc := ⟨.hbm, 89, rfl⟩
abbrev main_call8_v1 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_cst_4 : Ref sig .tc := ⟨.hbm, 94, rfl⟩
abbrev main_v38 : Ref sig .tc := ⟨.hbm, 95, rfl⟩
abbrev main_cst_5 : Ref sig .tc := ⟨.hbm, 96, rfl⟩
abbrev main_v39 : Ref sig .tc := ⟨.hbm, 97, rfl⟩
abbrev main_v40 : Ref sig .tc := ⟨.hbm, 98, rfl⟩
abbrev main_cst_6 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_cst_7 : Ref sig .tc := ⟨.hbm, 109, rfl⟩
abbrev main_v50 : Ref sig .tc := ⟨.hbm, 110, rfl⟩
abbrev main_cst_8 : Ref sig .tc := ⟨.hbm, 111, rfl⟩
abbrev main_v51 : Ref sig .tc := ⟨.hbm, 112, rfl⟩
abbrev main_v52 : Ref sig .tc := ⟨.hbm, 113, rfl⟩

abbrev nD : Nat := 1
abbrev τ : Topo := Topo.v7x

variable {F : FTy → Type} [FloatOps F]
-- ==== Proof.KernelBlock.lean ====
module

public import proofs.«01_k».proof.Proof.Gen.KernelIdeal.Value
public import Idealize.ShloMosaic.Lib.Pipeline.ValueKit
public import Idealize.ShloMosaic.Lib.Pointwise

/-! # What one grid point of the kernel leaves

The similarity matrix of the block of anchors, its diagonal replaced, and the two sums it adds to the
accumulator, as plain functions of the blocks the point reads. -/

@[expose] public section
set_option maxRecDepth 16384
noncomputable section

open Idealize.ShloMosaic Idealize.ShloMosaic.TcCoe Idealize.SL.Sem

namespace Cert.KernelIdeal.Block
open Cert.KernelIdeal Cert.KernelIdeal.Gen

/-- The similarities of every positive row with the block's anchor rows; a row's own pair is replaced by
    the large negative constant. -/
def work (i : grid0.Coords) (x0 : Vec Ideal S16x1024 .f32) (pn : Vec Ideal S16x4096 .bf16) : Vec Ideal S4096x1024 .bf16 :=
  fun j => if (j 0).val = (i 0).val * 1024 + (j 1).val then Scalar.ofBits (F := Ideal) .bf16 0xF14A#16 else k0_pay7 x0 pn j

/-- The sum over the block of the positive pairs' losses. -/
def posSum (x0 x2 : Vec Ideal S16x1024 .f32) : Ideal .f32 := k0_pay19 (k0_pay5 x0) (k0_pay6 x0) x2

/-- The sum over the block of the four hard negatives' losses, read off the similarities `W`. -/
def negSum (x0 x2 : Vec Ideal S16x1024 .f32) (W : Vec Ideal S4096x1024 .bf16) : Ideal .f32 :=
  k0_pay21 (k0_pay14 (k0_pay9 W)) (k0_pay15 W (k0_pay10 W) k0_pay11) (k0_pay16 W (k0_pay10 W) k0_pay11)
    (k0_pay17 W (k0_pay10 W) k0_pay11) (k0_pay18 (k0_pay5 x0) (k0_pay6 x0) x2) k0_pay20

/-- Where a grid point's diagonal block begins. -/
theorem off1_eq (i : grid0.Coords) : k0_off1 i = ![(i 0).val * 1024, 0] := by
  have h : (i 0).val < 4 := (i 0).isLt
  have e : (BitVec.ofNat 32 (i 0).val * 1024#32 : BitVec 32).toNat = (i 0).val * 1024 := by
    rw [BitVec.toNat_mul, BitVec.toNat_ofNat, BitVec.toNat_ofNat]; omega
  show ![(BitVec.ofNat 32 (i 0).val * 1024#32 : BitVec 32).toNat, 0] = _
  rw [e]

/-- The matrix the point reads back is `work`: the stored similarities with the diagonal overwritten. -/
theorem readCov_work (i : grid0.Coords) (v : View sig .tc .vmem S4096x1024 .bf16) (x0 : Vec Ideal S16x1024 .f32) (pn : Vec Ideal S16x4096 .bf16) :
    v.readCov (Val := Elt Ideal) [⟨Rect.unit (k0_off1 i) ![1024, 1024] (k0_off1_inb i), k0_pay8 (View.ld (Val := Elt Ideal) (e' := .bf16) (k0_pay7 x0 pn) (Rect.unit (s := S4096x1024) (k0_off1 i) ![1024, 1024] (k0_off1_inb i)))⟩,
        ⟨Rect.unit ![0, 0] ![4096, 1024] inb_S4096x1024_S4096x1024_0_0, k0_pay7 x0 pn⟩]
      (Rect.unit ![0, 0] ![4096, 1024] inb_S4096x1024_S4096x1024_0_0).toLoadRect = work i x0 pn := by
  rw [View.readCov_eq_canon']
  have hi : (i 0).val < 4 := (i 0).isLt
  funext j
  have hB : (Rect.unit (s := S4096x1024) ![0, 0] ![4096, 1024] inb_S4096x1024_S4096x1024_0_0).toLoadRect.idx j = j := by
    funext a; apply Fin.ext
    match a with
    | ⟨0, _⟩ => show 0 + 1 * (j 0).val = (j 0).val; omega
    | ⟨1, _⟩ => show 0 + 1 * (j 1).val = (j 1).val; omega
  rw [hB]
  have hj1 : (j 1).val < 1024 := (j 1).isLt
  have h0 : k0_off1 i 0 = (i 0).val * 1024 := by rw [off1_eq]; rfl
  have h1 : k0_off1 i 1 = 0 := by rw [off1_eq]; rfl
  by_cases hm : (i 0).val * 1024 ≤ (j 0).val ∧ (j 0).val < (i 0).val * 1024 + 1024
  · have hx : (Rect.unit (s := S4096x1024) (k0_off1 i) ![1024, 1024] (k0_off1_inb i)).emb (ix2 ⟨(j 0).val - (i 0).val * 1024, by omega⟩ ⟨(j 1).val, hj1⟩) = j := by
      funext a; apply Fin.ext
      match a with
      | ⟨0, _⟩ => show k0_off1 i 0 + 1 * ((j 0).val - (i 0).val * 1024) = (j 0).val; omega
      | ⟨1, _⟩ => show k0_off1 i 1 + 1 * (j 1).val = (j 1).val; omega
    conv_lhs => rw [← hx]
    rw [View.canon_cons_emb]
    pointwise [k0_pay8, work]
    have hj : (ix2 ⟨k0_off1 i 0 + ((j 0).val - (i 0).val * 1024), by omega⟩ ⟨k0_off1 i 1 + (j 1).val, by omega⟩ : S4096x1024.Idx) = j := by
      funext a; apply Fin.ext
      match a with
      | ⟨0, _⟩ => show k0_off1 i 0 + ((j 0).val - (i 0).val * 1024) = (j 0).val; omega
      | ⟨1, _⟩ => show k0_off1 i 1 + (j 1).val = (j 1).val; omega
    rw [hj]
    by_cases hd : (j 0).val = (i 0).val * 1024 + (j 1).val
    · rw [if_pos hd, show (j 0).val - (i 0).val * 1024 = (j 1).val by omega]
      simp [Scalar.select, IntOp.cmpi]
    · rw [if_neg hd]
      have : ¬ BitVec.ofNat 32 ((j 0).val - (i 0).val * 1024) = BitVec.ofNat 32 (j 1).val := by
        intro h
        have h2 := congrArg BitVec.toNat h
        rw [BitVec.toNat_ofNat, BitVec.toNat_ofNat] at h2
        omega
      have h3 : (BitVec.ofNat 32 ((j 0).val - (i 0).val * 1024) == BitVec.ofNat 32 (j 1).val) = false := by
        rw [beq_eq_false_iff_ne]; exact this
      simp [Scalar.select, IntOp.cmpi, h3]
  · rw [View.canon_cons_of_not_mem, View.canon_unit_zero]
    · unfold work
      rw [if_neg (by omega)]
    · funext a; fin_cases a <;> rfl
    · intro hmem
      rw [Rect.mem_set_unit] at hmem
      have := hmem 0
      rw [h0] at this
      exact hm this

/-- The first grid point leaves its two sums added to zero. -/
theorem out_A (c : Dev nD) (i : grid0.Coords) (arg1 : Memref sig .tc .vmem S16x1024 .f32) (harg1 : arg1.IsWhole) (arg2 : Memref sig .tc .vmem S16x4096 .f32) (harg2 : arg2.IsWhole) (arg3 : Memref sig .tc .vmem S16x1024 .f32) (harg3 : arg3.IsWhole) (arg4 : Memref sig .tc .vmem S1x1 .f32) (harg4 : arg4.IsWhole) (arg5 : Memref sig .tc .vmem S16x4096 .bf16) (harg5 : arg5.IsWhole) (arg6 : Memref sig .tc .vmem S4096x1024 .bf16) (harg6 : arg6.IsWhole) (hc0 : cond0_0 i) (hc1 : cond0_1 i) (hc2 : ¬cond0_2 i)
    (x0 : Vec Ideal S16x1024 .f32) (x1 : Vec Ideal S16x4096 .f32) (x2 : Vec Ideal S16x1024 .f32) :
    out0_A_3 c i arg1 harg1 arg2 harg2 arg3 harg3 arg4 harg4 arg5 harg5 arg6 harg6 hc0 hc1 hc2 x0 x1 x2 = k0_pay2 (posSum x0 x2) (negSum x0 x2 (work i x0 (k0_pay4 x1))) (k0_pay1 (F := Ideal)) := by
  frame_out
  rw [readCov_work]
  rfl

/-- The first grid point leaves the positives' twice-normalised rows in its scratch array. -/
theorem sout_A (c : Dev nD) (i : grid0.Coords) (arg1 : Memref sig .tc .vmem S16x1024 .f32) (harg1 : arg1.IsWhole) (arg2 : Memref sig .tc .vmem S16x4096 .f32) (harg2 : arg2.IsWhole) (arg3 : Memref sig .tc .vmem S16x1024 .f32) (harg3 : arg3.IsWhole) (arg4 : Memref sig .tc .vmem S1x1 .f32) (harg4 : arg4.IsWhole) (arg5 : Memref sig .tc .vmem S16x4096 .bf16) (harg5 : arg5.IsWhole) (arg6 : Memref sig .tc .vmem S4096x1024 .bf16) (harg6 : arg6.IsWhole) (hc0 : cond0_0 i) (hc1 : cond0_1 i) (hc2 : ¬cond0_2 i)
    (x0 : Vec Ideal S16x1024 .f32) (x1 : Vec Ideal S16x4096 .f32) (x2 : Vec Ideal S16x1024 .f32) :
    sout0_A_0 c i arg1 harg1 arg2 harg2 arg3 harg3 arg4 harg4 arg5 harg5 arg6 harg6 hc0 hc1 hc2 x0 x1 x2 = k0_pay4 x1 := by
  frame_out

/-- A middle grid point adds its two sums to what it finds. -/
theorem out_B (c : Dev nD) (i : grid0.Coords) (arg1 : Memref sig .tc .vmem S16x1024 .f32) (harg1 : arg1.IsWhole) (arg2 : Memref sig .tc .vmem S16x4096 .f32) (harg2 : arg2.IsWhole) (arg3 : Memref sig .tc .vmem S16x1024 .f32) (harg3 : arg3.IsWhole) (arg4 : Memref sig .tc .vmem S1x1 .f32) (harg4 : arg4.IsWhole) (arg5 : Memref sig .tc .vmem S16x4096 .bf16) (harg5 : arg5.IsWhole) (arg6 : Memref sig .tc .vmem S4096x1024 .bf16) (harg6 : arg6.IsWhole) (hc0 : ¬cond0_0 i) (hc1 : ¬cond0_1 i) (hc2 : ¬cond0_2 i)
    (x0 : Vec Ideal S16x1024 .f32) (x1 : Vec Ideal S16x4096 .f32) (x2 : Vec Ideal S16x1024 .f32) (xo3 : Vec Ideal S1x1 .f32) (xs0 : Vec Ideal S16x4096 .bf16) :
    out0_B_3 c i arg1 harg1 arg2 harg2 arg3 harg3 arg4 harg4 arg5 harg5 arg6 harg6 hc0 hc1 hc2 x0 x1 x2 xo3 xs0 = k0_pay2 (posSum x0 x2) (negSum x0 x2 (work i x0 xs0)) xo3 := by
  frame_out
  rw [readCov_work]
  rfl

/-- A middle grid point leaves the scratch array as it finds it. -/
theorem sout_B (c : Dev nD) (i : grid0.Coords) (arg1 : Memref sig .tc .vmem S16x1024 .f32) (harg1 : arg1.IsWhole) (arg2 : Memref sig .tc .vmem S16x4096 .f32) (harg2 : arg2.IsWhole) (arg3 : Memref sig .tc .vmem S16x1024 .f32) (harg3 : arg3.IsWhole) (arg4 : Memref sig .tc .vmem S1x1 .f32) (harg4 : arg4.IsWhole) (arg5 : Memref sig .tc .vmem S16x4096 .bf16) (harg5 : arg5.IsWhole) (arg6 : Memref sig .tc .vmem S4096x1024 .bf16) (harg6 : arg6.IsWhole) (hc0 : ¬cond0_0 i) (hc1 : ¬cond0_1 i) (hc2 : ¬cond0_2 i)
    (x0 : Vec Ideal S16x1024 .f32) (x1 : Vec Ideal S16x4096 .f32) (x2 : Vec Ideal S16x1024 .f32) (xo3 : Vec Ideal S1x1 .f32) (xs0 : Vec Ideal S16x4096 .bf16) :
    sout0_B_0 c i arg1 harg1 arg2 harg2 arg3 harg3 arg4 harg4 arg5 harg5 arg6 harg6 hc0 hc1 hc2 x0 x1 x2 xo3 xs0 = xs0 := by
  rfl

/-- The last grid point adds its two sums and divides by the number of terms. -/
theorem out_C (c : Dev nD) (i : grid0.Coords) (arg1 : Memref sig .tc .vmem S16x1024 .f32) (harg1 : arg1.IsWhole) (arg2 : Memref sig .tc .vmem S16x4096 .f32) (harg2 : arg2.IsWhole) (arg3 : Memref sig .tc .vmem S16x1024 .f32) (harg3 : arg3.IsWhole) (arg4 : Memref sig .tc .vmem S1x1 .f32) (harg4 : arg4.IsWhole) (arg5 : Memref sig .tc .vmem S16x4096 .bf16) (harg5 : arg5.IsWhole) (arg6 : Memref sig .tc .vmem S4096x1024 .bf16) (harg6 : arg6.IsWhole) (hc0 : ¬cond0_0 i) (hc1 : ¬cond0_1 i) (hc2 : cond0_2 i)
    (x0 : Vec Ideal S16x1024 .f32) (x1 : Vec Ideal S16x4096 .f32) (x2 : Vec Ideal S16x1024 .f32) (xo3 : Vec Ideal S1x1 .f32) (xs0 : Vec Ideal S16x4096 .bf16) :
    out0_C_3 c i arg1 harg1 arg2 harg2 arg3 harg3 arg4 harg4 arg5 harg5 arg6 harg6 hc0 hc1 hc2 x0 x1 x2 xo3 xs0 = k0_pay3 (k0_pay2 (posSum x0 x2) (negSum x0 x2 (work i x0 xs0)) xo3) := by
  frame_out
  rw [readCov_work]
  rfl

/-- The last grid point leaves the scratch array as it finds it. -/
theorem sout_C (c : Dev nD) (i : grid0.Coords) (arg1 : Memref sig .tc .vmem S16x1024 .f32) (harg1 : arg1.IsWhole) (arg2 : Memref sig .tc .vmem S16x4096 .f32) (harg2 : arg2.IsWhole) (arg3 : Memref sig .tc .vmem S16x1024 .f32) (harg3 : arg3.IsWhole) (arg4 : Memref sig .tc .vmem S1x1 .f32) (harg4 : arg4.IsWhole) (arg5 : Memref sig .tc .vmem S16x4096 .bf16) (harg5 : arg5.IsWhole) (arg6 : Memref sig .tc .vmem S4096x1024 .bf16) (harg6 : arg6.IsWhole) (hc0 : ¬cond0_0 i) (hc1 : ¬cond0_1 i) (hc2 : cond0_2 i)
    (x0 : Vec Ideal S16x1024 .f32) (x1 : Vec Ideal S16x4096 .f32) (x2 : Vec Ideal S16x1024 .f32) (xo3 : Vec Ideal S1x1 .f32) (xs0 : Vec Ideal S16x4096 .bf16) :
    sout0_C_0 c i arg1 harg1 arg2 harg2 arg3 harg3 arg4 harg4 arg5 harg5 arg6 harg6 hc0 hc1 hc2 x0 x1 x2 xo3 xs0 = xs0 := by
  rfl

end Cert.KernelIdeal.Block
end
-- ==== Proof.Spec.lean ====
module

public import Idealize.ShloMosaic.Lib.Pointwise

/-! # The loss of one anchor row, on extended reals

The vocabulary both programs are read in: norms, cosines, the two losses of a similarity, and the kernel's
selection of a row's four hard negatives by repeated strict maxima. -/

@[expose] public section
noncomputable section

open Idealize.ShloMosaic

namespace Cert.Loss

/-- The kernel's and the reference's guard against a zero denominator. -/
def eps : EReal := Ideal.ofBits .f32 0x322BCC77#32
/-- The kernel's value for a masked similarity. -/
def neg : EReal := Ideal.ofBits .bf16 0xF14A#16
/-- The starting value of a maximum. -/
def bot : EReal := Ideal.ofBits .bf16 0xFF80#16
/-- The number of terms the mean is over. -/
def cnt : EReal := Ideal.ofBits .f32 0x46A00000#32

/-- The inner product of two rows. -/
def dot (u v : Fin 16 → EReal) : EReal := ∑ d, u d * v d
/-- The length of a row. -/
def nrm (v : Fin 16 → EReal) : EReal := Ideal.sqrt (∑ d, v d * v d)
/-- A vector divided by its norm. -/
def unit (v : Fin 16 → EReal) (d : Fin 16) : EReal := Ideal.div (v d) (nrm v)
/-- The similarity of two rows, its denominator at least `eps`. -/
def cosine (u v : Fin 16 → EReal) : EReal := Ideal.div (dot u v) (max eps (nrm u * nrm v))

/-- The loss of a similarity whose target is zero. -/
def sp (x : EReal) : EReal := max x 0 + Ideal.log1p (Ideal.exp (0 - FloatOps.absf (F := Ideal) (φ := .f32) x))
/-- The loss of a similarity whose target is one. -/
def pos (x : EReal) : EReal := max x 0 - x + Ideal.log1p (Ideal.exp (0 - FloatOps.absf (F := Ideal) (φ := .f32) x))

/-- The largest of a row's similarities. -/
def top (w : Fin 4096 → EReal) : EReal := Finset.univ.fold max bot w
/-- The largest of a row's similarities strictly below `v`. -/
def next (w : Fin 4096 → EReal) (v : EReal) : EReal := Finset.univ.fold max bot fun k => if w k < v then w k else neg
/-- The kernel's four hard negatives of a row: the three largest similarities, and the fourth largest unless it is
    negative, in which case the row's own similarity `x` is counted. -/
def hard (x : EReal) (w : Fin 4096 → EReal) : EReal :=
  sp (top w) + sp (next w (top w)) + sp (next w (next w (top w)))
    + if next w (next w (next w (top w))) < 0 then sp x else sp (next w (next w (next w (top w))))

end Cert.Loss
end
-- ==== Proof.KernelMax.lean ====
module

public import proofs.«01_k».proof.Proof.KernelBlock
public import proofs.«01_k».proof.Proof.Spec

/-! # The repeated strict maxima of one grid point -/

@[expose] public section
set_option maxRecDepth 16384
noncomputable section

open Idealize.ShloMosaic Idealize.ShloMosaic.TcCoe Idealize.SL.Sem

namespace Cert.KernelIdeal.Block
open Cert.KernelIdeal Cert.KernelIdeal.Gen Cert.Loss

/-- A row vector broadcast down the columns reads the row. -/
theorem bc_apply (u : FVec Ideal S1x1024 .bf16) (k : Fin 4096) (l : Fin 1024) :
    broadcastTo S4096x1024 u broadcasts_S1x1024_S4096x1024 (ix2 k l) = u (ix2 0 l) := by
  pointwise

/-- A choice on a strict comparison, as an `if`. -/
theorem select_olt (x y : Ideal .bf16) (a b : Ideal .bf16) :
    Scalar.select (FloatOps.cmpf (F := Ideal) .olt x y) a b = if @LT.lt EReal _ x y then a else b := by
  rw [Ideal.cmpf_def]
  by_cases h : @LT.lt EReal _ x y <;> simp [Ideal.cmp, Scalar.select, h]

/-- The largest entry of each column. -/
theorem pay9_eq (W : Vec Ideal S4096x1024 .bf16) (l : Fin 1024) : k0_pay9 W (ix2 0 l) = top fun k => W (ix2 k l) := by
  pointwise [k0_pay9]
  unfold top bot
  rfl

/-- A masked maximum over the rows, at a lane. -/
theorem pay12_apply (W : Vec Ideal S4096x1024 .bf16) (c : IVec S4096x1024 1) (d : FVec Ideal S4096x1024 .bf16) (l : Fin 1024) :
    k0_pay12 W c d (ix2 0 l) = Finset.univ.fold max bot fun k => Scalar.select (c (ix2 k l)) (W (ix2 k l)) (d (ix2 k l)) := by
  pointwise [k0_pay12]
  unfold bot
  rfl

/-- The masked value, everywhere. -/
theorem pay11_apply (k : Fin 4096) (l : Fin 1024) : k0_pay11 (F := Ideal) (ix2 k l) = neg := by rfl

/-- One step of the repeated maxima: the largest entry of each column strictly below the row vector `u`. -/
def step (W : Vec Ideal S4096x1024 .bf16) (u : FVec Ideal S1x1024 .bf16) : FVec Ideal S1x1024 .bf16 :=
  k0_pay12 W (cmpf .olt W (broadcastTo S4096x1024 u broadcasts_S1x1024_S4096x1024)) k0_pay11

/-- One step of the repeated maximum is the lane's `next`. -/
theorem step_apply (W : Vec Ideal S4096x1024 .bf16) (u : FVec Ideal S1x1024 .bf16) (l : Fin 1024) :
    step W u (ix2 0 l) = next (fun k => W (ix2 k l)) (u (ix2 0 l)) := by
  unfold step next
  rw [pay12_apply]
  refine congrArg (fun f => Finset.fold max bot f Finset.univ) (funext fun k => ?_)
  rw [ValueIdx.cmpf_apply, bc_apply, pay11_apply, select_olt]

/-- The second maximum is a step from the first. -/
theorem pay12_step (W : Vec Ideal S4096x1024 .bf16) : k0_pay12 W (k0_pay10 W) k0_pay11 = step W (k0_pay9 W) := by rfl

/-- The third maximum is a step from the second. -/
theorem pay13_step (W : Vec Ideal S4096x1024 .bf16) :
    k0_pay13 W (k0_pay10 W) k0_pay11 = step W (step W (k0_pay9 W)) := by rfl

/-- Widening leaves an extended real as it is. -/
theorem extf_eq (x : FVec Ideal S1x1024 .bf16) : (extf .f32 x bitsLt_bf16_f32 : FVec Ideal S1x1024 .f32) = x := by rfl

/-- The first maximum, widened, is itself. -/
theorem pay14_step (u : FVec Ideal S1x1024 .bf16) : k0_pay14 u = u := by
  unfold k0_pay14
  exact extf_eq u

/-- The second maximum, widened. -/
theorem pay15_step (W : Vec Ideal S4096x1024 .bf16) : k0_pay15 W (k0_pay10 W) k0_pay11 = step W (k0_pay9 W) := by
  unfold k0_pay15
  rw [pay12_step]
  exact extf_eq _

/-- The third maximum, widened. -/
theorem pay16_step (W : Vec Ideal S4096x1024 .bf16) : k0_pay16 W (k0_pay10 W) k0_pay11 = step W (step W (k0_pay9 W)) := by
  unfold k0_pay16
  rw [pay13_step]
  exact extf_eq _

/-- The fourth maximum, widened. -/
theorem pay17_step (W : Vec Ideal S4096x1024 .bf16) :
    k0_pay17 W (k0_pay10 W) k0_pay11 = step W (step W (step W (k0_pay9 W))) := by
  rw [← pay13_step]
  unfold k0_pay17
  exact extf_eq (step W (k0_pay13 W (k0_pay10 W) k0_pay11))

end Cert.KernelIdeal.Block
end
-- ==== Proof.KernelRow.lean ====
module

public import proofs.«01_k».proof.Proof.KernelBlock
public import proofs.«01_k».proof.Proof.KernelMax

/-! # What one grid point computes, row by row -/

@[expose] public section
set_option maxRecDepth 16384
noncomputable section

open Idealize.ShloMosaic Idealize.ShloMosaic.TcCoe Idealize.SL.Sem

namespace Cert.KernelIdeal.Block
open Cert.KernelIdeal Cert.KernelIdeal.Gen Cert.Loss

/-- The block's positive pairs' losses, summed over its anchor rows. -/
theorem posSum_eq (x0 x2 : Vec Ideal S16x1024 .f32) :
    posSum x0 x2 = ∑ l : Fin 1024, pos (cosine (fun d => x0 (ix2 d l)) (fun d => x2 (ix2 d l))) := by
  unfold posSum
  pointwise [k0_pay19, k0_pay18, k0_pay5, k0_pay6]
  rw [Fintype.sum_unique]
  rfl

/-- The similarity of a positive row and an anchor row, from the normalised positives `pn`. -/
theorem pay7_eq (x0 : Vec Ideal S16x1024 .f32) (pn : Vec Ideal S16x4096 .bf16) (k : Fin 4096) (l : Fin 1024) :
    k0_pay7 x0 pn (ix2 k l) = dot (fun d => pn (ix2 d k)) (unit fun d => x0 (ix2 d l)) := by
  pointwise [k0_pay7, k0_pay5, k0_pay6]
  rfl

/-- The kept positives are the positive rows normalised twice. -/
theorem pay4_eq (x1 : Vec Ideal S16x4096 .f32) (d : Fin 16) (k : Fin 4096) :
    k0_pay4 x1 (ix2 d k) = unit (unit fun d => x1 (ix2 d k)) d := by
  pointwise [k0_pay4]
  rfl

/-- The similarity of a lane's anchor with its positive. -/
theorem pay18_eq (x0 x2 : Vec Ideal S16x1024 .f32) (l : Fin 1024) :
    k0_pay18 (k0_pay5 x0) (k0_pay6 x0) x2 (ix2 0 l) = cosine (fun d => x0 (ix2 d l)) (fun d => x2 (ix2 d l)) := by
  pointwise [k0_pay18, k0_pay5, k0_pay6]
  rfl

end Cert.KernelIdeal.Block
end
-- ==== Proof.KernelNeg.lean ====
module

public import proofs.«01_k».proof.Proof.KernelBlock
public import proofs.«01_k».proof.Proof.KernelRow

/-! # What one grid point computes, row by row: the hard negatives -/

@[expose] public section
set_option maxRecDepth 16384
noncomputable section

open Idealize.ShloMosaic Idealize.ShloMosaic.TcCoe Idealize.SL.Sem

namespace Cert.KernelIdeal.Block
open Cert.KernelIdeal Cert.KernelIdeal.Gen Cert.Loss

/-- A vector of lanes summed to a scalar. -/
def laneSum (u : FVec Ideal S1x1024 .f32) : Ideal .f32 :=
  extractAt ![0, 0, 0] (shapeCast S1x1x1 (multiReduction .add [1, 2] S1 (shapeCast S1x1x1024 u shapeCasts_S1x1024_S1x1x1024)
    0x00000000#32 reduces_S1x1x1024_S1 (.inl rfl) rfl) shapeCasts_S1_S1x1x1) inpos_S1x1x1_p0_0_0

/-- The sum over the lanes. -/
theorem laneSum_eq (u : FVec Ideal S1x1024 .f32) : laneSum u = ∑ l : Fin 1024, u (ix2 0 l) := by
  pointwise [laneSum]
  rw [Fintype.sum_unique]

/-- A vector of losses of similarities, as the kernel computes it. -/
def spV (v : FVec Ideal S1x1024 .f32) : FVec Ideal S1x1024 .f32 :=
  addf (maximumf v (broadcast S1x1024 (Scalar.ofBits .f32 0x00000000#32)))
    (log1p (exp (subf (broadcast S1x1024 (Scalar.ofBits .f32 0x00000000#32)) (absf v))))

/-- The losses of a row of similarities, at a lane. -/
theorem spV_apply (v : FVec Ideal S1x1024 .f32) (l : Fin 1024) : spV v (ix2 0 l) = sp (v (ix2 0 l)) := by
  pointwise [spV]
  rfl

/-- The hard negatives' sum, as one sum over the lanes. -/
theorem pay21_lanes (v0 v1 v2 v3 x z : FVec Ideal S1x1024 .f32) :
    k0_pay21 v0 v1 v2 v3 x z
      = laneSum (addf (addf (addf (spV v0) (spV v1)) (spV v2)) (select (cmpf .olt v3 z) (spV x) (spV v3))) := by rfl

/-- A choice by `<` is an `if`. -/
theorem select_olt32 (x y : Ideal .f32) (a b : Ideal .f32) :
    Scalar.select (FloatOps.cmpf (F := Ideal) .olt x y) a b = if @LT.lt EReal _ x y then a else b := by
  rw [Ideal.cmpf_def]
  by_cases h : @LT.lt EReal _ x y <;> simp [Ideal.cmp, Scalar.select, h]

/-- The block's hard negatives' losses, summed over its anchor rows. -/
theorem negSum_eq (x0 x2 : Vec Ideal S16x1024 .f32) (W : Vec Ideal S4096x1024 .bf16) :
    negSum x0 x2 W = ∑ l : Fin 1024, hard (cosine (fun d => x0 (ix2 d l)) (fun d => x2 (ix2 d l))) fun k => W (ix2 k l) := by
  unfold negSum
  rw [pay15_step, pay16_step, pay17_step, pay14_step, pay21_lanes, laneSum_eq]
  refine Finset.sum_congr rfl fun l _ => ?_
  unfold hard
  rw [ValueIdx.addf_apply, ValueIdx.addf_apply, ValueIdx.addf_apply, ValueIdx.select_apply, ValueIdx.cmpf_apply, select_olt32,
    spV_apply, spV_apply, spV_apply, spV_apply, spV_apply, pay18_eq,
    show k0_pay20 (F := Ideal) (ix2 0 l) = 0 from Ideal.ofBits_zero_f32]
  simp only [step_apply, pay9_eq]

end Cert.KernelIdeal.Block
end
-- ==== Proof.KernelValue.lean ====
module

public import proofs.«01_k».proof.Proof.KernelNeg

/-! # The array the kernel leaves, from its two arguments -/

@[expose] public section
set_option maxRecDepth 16384
noncomputable section

open Idealize.ShloMosaic Idealize.ShloMosaic.TcCoe Idealize.SL.Sem

namespace Cert.KernelIdeal.Block
open Cert.KernelIdeal Cert.KernelIdeal.Gen Cert.KernelIdeal.Value Cert.Loss

variable (m : (ℓ : Loc nD τ sig) → Buf (Elt Ideal) ℓ)

/-- What point `t` adds to the accumulator `xo`. -/
def accStep (c : Dev nD) (t : Fin cfg0.N) (pn : Vec Ideal S16x4096 .bf16) (xo : Vec Ideal S1x1 .f32) : Vec Ideal S1x1 .f32 :=
  k0_pay2 (posSum (iblk m c 0 t) (iblk m c 2 t)) (negSum (iblk m c 0 t) (iblk m c 2 t) (work (grid0.coords t) (iblk m c 0 t) pn)) xo

abbrev pt (n : Nat) (h : n < 4) : Fin cfg0.N := ⟨n, lt_of_lt_of_eq h N_0.symm⟩

/-- The array after the four grid points. -/
theorem fold_eq (c : Dev nD) :
    G3 m c = k0_pay3 (accStep m c (pt 3 (by omega)) (k0_pay4 (iblk m c 1 (pt 0 (by omega))))
      (accStep m c (pt 2 (by omega)) (k0_pay4 (iblk m c 1 (pt 0 (by omega))))
      (accStep m c (pt 1 (by omega)) (k0_pay4 (iblk m c 1 (pt 0 (by omega))))
      (accStep m c (pt 0 (by omega)) (k0_pay4 (iblk m c 1 (pt 0 (by omega)))) (k0_pay1 (F := Ideal)))))) := by
  have s0 := stAt0_A m c (pt 0 (by omega)) junk0 (by decide) (by decide) (by decide)
  rw [out_A, sout_A] at s0
  have s1 := fun acc => stAt0_B m c (pt 1 (by omega)) acc (by decide) (by decide) (by decide)
  have s2 := fun acc => stAt0_B m c (pt 2 (by omega)) acc (by decide) (by decide) (by decide)
  have s3 := fun acc => stAt0_C m c (pt 3 (by omega)) acc (by decide) (by decide) (by decide)
  simp only [out_B, sout_B, out_C, sout_C] at s1 s2 s3
  rw [G3_last]
  show (stAt0 m c 3 _ (stAt0 m c 2 _ (stAt0 m c 1 _ (stAt0 m c 0 _ junk0)))).1 = _
  rw [s0, s1, s2, s3]
  rfl

/-- The first window's array is the transpose of the anchors. -/
theorem V_v0 (c : Dev nD) (d : Fin 16) (r : Fin 4096) :
    V m c (Pipeline.arrRef spec0 0) (ix2 d r) = m ((c : Thread nD τ).loc main_arg0) (ix2 r d) := by
  have h : V m c (Pipeline.arrRef spec0 0) = transpose S16x4096 [1, 0] (m ((c : Thread nD τ).loc main_arg0)) transposes_S4096x16_S16x4096_1_0 := by
    rfl
  rw [h]
  pointwise

/-- The transposed anchors hold the anchors. -/
theorem V_v1 (c : Dev nD) (d : Fin 16) (r : Fin 4096) :
    V m c (Pipeline.arrRef spec0 1) (ix2 d r) = m ((c : Thread nD τ).loc main_arg1) (ix2 r d) := by
  have h : V m c (Pipeline.arrRef spec0 1) = transpose S16x4096 [1, 0] (m ((c : Thread nD τ).loc main_arg1)) transposes_S4096x16_S16x4096_1_0 := by
    rfl
  rw [h]
  pointwise

/-- The transposed positives hold the positives. -/
theorem V_v2 (c : Dev nD) (d : Fin 16) (r : Fin 4096) :
    V m c (Pipeline.arrRef spec0 2) (ix2 d r) = m ((c : Thread nD τ).loc main_arg1) (ix2 r d) := V_v1 m c d r

/-- A lane's row number is in range. -/
theorem row_lt (t : Fin cfg0.N) (l : Fin 1024) : t.val * 1024 + l.val < 4096 := by
  have := lt_of_lt_of_eq t.isLt N_0
  omega

/-- The array row of the block's row `l` at point `t`. -/
def row (t : Fin cfg0.N) (l : Fin 1024) : Fin 4096 := ⟨t.val * 1024 + l.val, row_lt t l⟩

/-- The one coordinate of a grid point is its number. -/
theorem coord_val : ∀ t : Fin cfg0.N, ((grid0.coords t) 0).val = t.val := (by decide +kernel : ∀ t : Fin grid0.N, _)

/-- The block of anchors that a grid point reads. -/
theorem index0 : ∀ t : Fin cfg0.N, win0_0.index t (0 : Fin 2) = 0 ∧ win0_0.index t (1 : Fin 2) = t.val :=
  (by decide +kernel : ∀ t : Fin grid0.N, _)
/-- The block of all positives that a grid point reads. -/
theorem index1 : ∀ t : Fin cfg0.N, win0_1.index t (0 : Fin 2) = 0 ∧ win0_1.index t (1 : Fin 2) = 0 :=
  (by decide +kernel : ∀ t : Fin grid0.N, _)
/-- The block of its own positives that a grid point reads. -/
theorem index2 : ∀ t : Fin cfg0.N, win0_2.index t (0 : Fin 2) = 0 ∧ win0_2.index t (1 : Fin 2) = t.val :=
  (by decide +kernel : ∀ t : Fin grid0.N, _)

/-- The block of anchors, entry by entry. -/
theorem blk0 (c : Dev nD) (t : Fin cfg0.N) (d : Fin 16) (l : Fin 1024) :
    iblk m c 0 t (ix2 d l) = m ((c : Thread nD τ).loc main_arg0) (ix2 (row t l) d) := by
  refine Eq.trans ?_ (V_v0 m c d (row t l))
  unfold iblk
  rw [View.read_apply]
  obtain ⟨e0, e1⟩ := index0 t
  refine congrArg (V m c (Pipeline.arrRef spec0 0)) (funext fun a => Fin.ext ?_)
  match a with
  | ⟨0, _⟩ => show win0_0.index t (0 : Fin 2) * 16 + 1 * d.val = d.val; omega
  | ⟨1, _⟩ => show win0_0.index t (1 : Fin 2) * 1024 + 1 * l.val = t.val * 1024 + l.val; omega

/-- The block of all positives, entry by entry. -/
theorem blk1 (c : Dev nD) (t : Fin cfg0.N) (d : Fin 16) (r : Fin 4096) :
    iblk m c 1 t (ix2 d r) = m ((c : Thread nD τ).loc main_arg1) (ix2 r d) := by
  refine Eq.trans ?_ (V_v1 m c d r)
  unfold iblk
  rw [View.read_apply]
  obtain ⟨e0, e1⟩ := index1 t
  refine congrArg (V m c (Pipeline.arrRef spec0 1)) (funext fun a => Fin.ext ?_)
  match a with
  | ⟨0, _⟩ => show win0_1.index t (0 : Fin 2) * 16 + 1 * d.val = d.val; omega
  | ⟨1, _⟩ => show win0_1.index t (1 : Fin 2) * 4096 + 1 * r.val = r.val; omega

/-- The block of its own positives, entry by entry. -/
theorem blk2 (c : Dev nD) (t : Fin cfg0.N) (d : Fin 16) (l : Fin 1024) :
    iblk m c 2 t (ix2 d l) = m ((c : Thread nD τ).loc main_arg1) (ix2 (row t l) d) := by
  refine Eq.trans ?_ (V_v2 m c d (row t l))
  unfold iblk
  rw [View.read_apply]
  obtain ⟨e0, e1⟩ := index2 t
  refine congrArg (V m c (Pipeline.arrRef spec0 2)) (funext fun a => Fin.ext ?_)
  match a with
  | ⟨0, _⟩ => show win0_2.index t (0 : Fin 2) * 16 + 1 * d.val = d.val; omega
  | ⟨1, _⟩ => show win0_2.index t (1 : Fin 2) * 1024 + 1 * l.val = t.val * 1024 + l.val; omega

end Cert.KernelIdeal.Block
end
-- ==== Proof.KernelSum.lean ====
module

public import proofs.«01_k».proof.Proof.KernelValue

/-! # The kernel's result as one sum over the anchor rows -/

@[expose] public section
set_option maxRecDepth 16384
noncomputable section

open Idealize.ShloMosaic Idealize.ShloMosaic.TcCoe Idealize.SL.Sem

namespace Cert.Loss

/-- The kernel's similarities of anchor row `r` with every positive row, its own replaced by `neg`. -/
def masked (A P : Fin 4096 → Fin 16 → EReal) (r k : Fin 4096) : EReal :=
  if k = r then neg else dot (unit (unit (P k))) (unit (A r))

/-- The kernel's result: the losses of the positive pairs and of the hard negatives, over the number of terms. -/
def kernelLoss (A P : Fin 4096 → Fin 16 → EReal) : EReal :=
  Ideal.div (∑ r, pos (cosine (A r) (P r)) + ∑ r, hard (cosine (A r) (P r)) (masked A P r)) cnt

end Cert.Loss

namespace Cert.KernelIdeal.Block
open Cert.KernelIdeal Cert.KernelIdeal.Gen Cert.KernelIdeal.Value Cert.Loss

variable (m : (ℓ : Loc nD τ sig) → Buf (Elt Ideal) ℓ)

/-- The rows of the anchors and of the positives. -/
def rowsA (c : Dev nD) (r : Fin 4096) (d : Fin 16) : EReal := m ((c : Thread nD τ).loc main_arg0) (ix2 r d)
def rowsP (c : Dev nD) (r : Fin 4096) (d : Fin 16) : EReal := m ((c : Thread nD τ).loc main_arg1) (ix2 r d)

/-- A lane's column of the working array is the masked similarities of its anchor row. -/
theorem work_masked (c : Dev nD) (t t0 : Fin cfg0.N) (l : Fin 1024) :
    (fun k => work (grid0.coords t) (iblk m c 0 t) (k0_pay4 (iblk m c 1 t0)) (ix2 k l)) = masked (rowsA m c) (rowsP m c) (row t l) := by
  funext k
  unfold work masked
  rw [coord_val]
  show (if k.val = (row t l).val then neg else k0_pay7 (iblk m c 0 t) (k0_pay4 (iblk m c 1 t0)) (ix2 k l)) = _
  by_cases h : k = row t l
  · rw [if_pos h, if_pos (congrArg Fin.val h)]
  · rw [if_neg h, if_neg (fun e => h (Fin.ext e)), pay7_eq]
    simp only [pay4_eq, blk0, blk1]
    rfl

/-- One grid point adds its rows' losses. -/
theorem accStep_apply (c : Dev nD) (t t0 : Fin cfg0.N) (xo : Vec Ideal S1x1 .f32) :
    accStep m c t (k0_pay4 (iblk m c 1 t0)) xo (ix2 0 0) = xo (ix2 0 0)
      + (∑ l, pos (cosine (rowsA m c (row t l)) (rowsP m c (row t l)))
        + ∑ l, hard (cosine (rowsA m c (row t l)) (rowsP m c (row t l))) (masked (rowsA m c) (rowsP m c) (row t l))) := by
  have h : ∀ a b : Ideal .f32, k0_pay2 a b xo (ix2 0 0) = xo (ix2 0 0) + (a + b) := by
    intro a b
    pointwise [k0_pay2]
  unfold accStep
  rw [h, posSum_eq, negSum_eq]
  simp only [work_masked, blk0, blk2]
  rfl

/-- A sum over all rows is the four grid points' sums over their lanes. -/
theorem sum_rows (f : Fin 4096 → EReal) :
    ∑ r, f r = ∑ l, f (row (pt 0 (by omega)) l) + ∑ l, f (row (pt 1 (by omega)) l) + ∑ l, f (row (pt 2 (by omega)) l)
      + ∑ l, f (row (pt 3 (by omega)) l) := by
  have h := Fin.sum_univ_univ_mul_add 4 1024 fun n => if h : n < 4096 then f ⟨n, h⟩ else 0
  have e1 : ∀ (s : Fin 4) (k : Fin 1024), (if h : s.val * 1024 + k.val < 4096 then f ⟨s.val * 1024 + k.val, h⟩ else 0)
      = f (row (pt s.val s.isLt) k) := fun s k => dif_pos (row_lt (pt s.val s.isLt) k)
  have e2 : ∀ l : Fin (4 * 1024), (if h : l.val < 4096 then f ⟨l.val, h⟩ else 0) = f l := fun l => dif_pos l.isLt
  simp only [e1, e2] at h
  rw [Fin.sum_univ_four] at h
  exact h.symm

/-- WHAT THE KERNEL'S ARRAY HOLDS: the loss of its two arguments. -/
theorem kernel_value (c : Dev nD) : G3 m c (ix2 0 0) = kernelLoss (rowsA m c) (rowsP m c) := by
  have h : ∀ x : Vec Ideal S1x1 .f32, k0_pay3 x (ix2 0 0) = Ideal.div (x (ix2 0 0)) cnt := by
    intro x
    pointwise [k0_pay3]
    rfl
  have h1 : k0_pay1 (F := Ideal) (ix2 0 0) = 0 := Ideal.ofBits_zero_f32
  rw [fold_eq, h, accStep_apply, accStep_apply, accStep_apply, accStep_apply, h1]
  unfold kernelLoss
  rw [sum_rows, sum_rows fun r => hard _ _]
  refine congrArg (fun x => Ideal.div x cnt) ?_
  abel

end Cert.KernelIdeal.Block
end
-- ==== Proof.Order.lean ====
module

public import proofs.«01_k».proof.Proof.Spec
public import Idealize.ShloMosaic.Lib.SortFacts

/-! # The order in which a row's entries are taken, greatest first -/

@[expose] public section
set_option maxRecDepth 16384
noncomputable section

open Idealize.ShloMosaic

namespace Cert.Loss

/-- The positions of a row, by descending entry, equal entries in index order. -/
def ord (w : Fin 4096 → EReal) : Fin 4096 → Fin 4096 :=
  sortedFrom fun k k' => (FloatOps.cmpfTotal (F := Ideal) (φ := .f32) .gt (w k) (w k')) == 1#1

/-- The sort's comparison is the order of the extended reals. -/
theorem gt_iff (a b : EReal) : ((FloatOps.cmpfTotal (F := Ideal) (φ := .f32) .gt a b) == 1#1) = decide (b < a) := by
  rw [Ideal.cmpfTotal_def]
  by_cases h : b < a <;> simp [Ideal.cmp, CmpDirection.ordered, h]

/-- No position is taken twice. -/
theorem ord_injective (w : Fin 4096 → EReal) : Function.Injective (ord w) := sortedFrom_injective _

/-- Every position is taken. -/
theorem ord_surjective (w : Fin 4096 → EReal) : Function.Surjective (ord w) := sortedFrom_surjective _

/-- A later position's entry is at most an earlier one's. -/
theorem ord_le (w : Fin 4096 → EReal) (i j : Fin 4096) (h : i < j) : w (ord w j) ≤ w (ord w i) := by
  have := sortedFrom_noInversion (fun k k' => decide (w k' < w k))
    (fun k k' => (FloatOps.cmpfTotal (F := Ideal) (φ := .f32) .gt (w k) (w k')) == 1#1)
    (fun a b h => by rw [gt_iff] at h; simp at h ⊢; exact h.le)
    (fun a b h => by rw [gt_iff]; exact h)
    (fun a b c h1 h2 => by simp at h1 h2 ⊢; exact h1.trans h2) i j h
  simp only [decide_eq_false_iff_not, not_lt] at this
  exact this

abbrev Mat : Shape := ⟨2, ![4096, 4096]⟩

/-- Changing an index along the rows changes its column. -/
theorem along_ix2 (r k q : Fin 4096) : Shape.Idx.along (s := Mat) (ix2 r k) (1 : Fin 2) q = ix2 r q := by
  funext a
  match a with
  | ⟨0, _⟩ => exact Function.update_of_ne (fun h => absurd (congrArg Fin.val h) Nat.zero_ne_one) _ _
  | ⟨1, _⟩ => exact Function.update_self _ _ _

/-- A matrix sorted along its rows, greatest first, with its column numbers carried. -/
theorem sort_val (M : Mat.Idx → EReal) (y : IVec Mat 32) (r k : Fin 4096) :
    (Host.sort2 Mat 1 (fun l r => FloatOps.cmpfTotal (F := Ideal) (φ := .f32) .gt l.1 r.1) M y).1 (ix2 r k)
      = M (ix2 r (ord (fun k => M (ix2 r k)) k)) := by
  unfold Host.sort2
  rw [dif_pos (show 1 < Mat.rank from Nat.lt_succ_self 1)]
  refine (congrArg M (along_ix2 r k _)).trans ?_
  refine congrArg (fun q => M (ix2 r q)) ?_
  unfold ord
  refine congrFun (congrArg sortedFrom (funext fun a => funext fun b => ?_)) k
  show (FloatOps.cmpfTotal (F := Ideal) (φ := .f32) .gt (M (Shape.Idx.along (s := Mat) (ix2 r k) (1 : Fin 2) a)) (M (Shape.Idx.along (s := Mat) (ix2 r k) (1 : Fin 2) b)) == 1#1) = _
  rw [along_ix2, along_ix2]

/-- The column numbers a sort carries. -/
theorem sort_idx (M : Mat.Idx → EReal) (y : IVec Mat 32) (r k : Fin 4096) :
    (Host.sort2 Mat 1 (fun l r => FloatOps.cmpfTotal (F := Ideal) (φ := .f32) .gt l.1 r.1) M y).2 (ix2 r k)
      = y (ix2 r (ord (fun k => M (ix2 r k)) k)) := by
  unfold Host.sort2
  rw [dif_pos (show 1 < Mat.rank from Nat.lt_succ_self 1)]
  refine (congrArg y (along_ix2 r k _)).trans ?_
  refine congrArg (fun q => y (ix2 r q)) ?_
  unfold ord
  refine congrFun (congrArg sortedFrom (funext fun a => funext fun b => ?_)) k
  show (FloatOps.cmpfTotal (F := Ideal) (φ := .f32) .gt (M (Shape.Idx.along (s := Mat) (ix2 r k) (1 : Fin 2) a)) (M (Shape.Idx.along (s := Mat) (ix2 r k) (1 : Fin 2) b)) == 1#1) = _
  rw [along_ix2, along_ix2]

/-- The values of a matrix's `K` greatest entries of each row. -/
theorem topK_val (K : Nat) (hK : K ≤ 4096) (M : Mat.Idx → EReal) (h : Mat.Slices (fun _ => 0) ⟨2, ![4096, K]⟩)
    (r : Fin 4096) (j : Fin K) :
    (Host.topK (α := EReal) ⟨2, ![4096, K]⟩ 1 (FloatOps.cmpfTotal (F := Ideal) (φ := .f32) .gt) M h).1 (ix2 r j)
      = M (ix2 r (ord (fun k => M (ix2 r k)) ⟨j.val, by omega⟩)) := by
  refine Eq.trans ?_ (sort_val M (fun i => if hd : 1 < Mat.rank then iotaInDim Mat 32 ⟨1, hd⟩ i else 0#32) r ⟨j.val, by omega⟩)
  unfold Host.topK extractStridedSlice
  refine congrArg (Host.sort2 Mat 1 (fun l r => FloatOps.cmpfTotal (F := Ideal) (φ := .f32) .gt l.1 r.1) M _).1 (funext fun a => Fin.ext ?_)
  match a with
  | ⟨0, _⟩ => exact Nat.zero_add _
  | ⟨1, _⟩ => exact Nat.zero_add _

/-- The columns of a matrix's `K` greatest entries of each row, as words. -/
theorem topK_idx (K : Nat) (hK : K ≤ 4096) (M : Mat.Idx → EReal) (h : Mat.Slices (fun _ => 0) ⟨2, ![4096, K]⟩)
    (r : Fin 4096) (j : Fin K) :
    (Host.topK (α := EReal) ⟨2, ![4096, K]⟩ 1 (FloatOps.cmpfTotal (F := Ideal) (φ := .f32) .gt) M h).2 (ix2 r j)
      = BitVec.ofNat 32 (ord (fun k => M (ix2 r k)) ⟨j.val, by omega⟩).val := by
  refine Eq.trans ?_ ((sort_idx M (fun i => if hd : 1 < Mat.rank then iotaInDim Mat 32 ⟨1, hd⟩ i else 0#32) r ⟨j.val, by omega⟩).trans
    (dif_pos (show 1 < Mat.rank from Nat.lt_succ_self 1)))
  unfold Host.topK extractStridedSlice
  refine congrArg (Host.sort2 Mat 1 (fun l r => FloatOps.cmpfTotal (F := Ideal) (φ := .f32) .gt l.1 r.1) M (fun i => if hd : 1 < Mat.rank then iotaInDim Mat 32 ⟨1, hd⟩ i else 0#32)).2 (funext fun a => Fin.ext ?_)
  match a with
  | ⟨0, _⟩ => exact Nat.zero_add _
  | ⟨1, _⟩ => exact Nat.zero_add _

end Cert.Loss
end
-- ==== Proof.RefUnit.lean ====
module

public import proofs.«01_k».proof.Proof.Order
public import proofs.«01_k».proof.Proof.Gen.ReferenceIdeal.Run
public import Idealize.ShloMosaic.Lib.Pointwise

/-! # The reference's unit rows and its matrix of similarities -/

@[expose] public section
set_option maxRecDepth 16384
noncomputable section

open Idealize.ShloMosaic Idealize.ShloMosaic.TcCoe Idealize.SL.Sem

namespace Cert.Loss

/-- The similarities by which the reference ranks the positive rows for anchor row `r`, its own row's multiplied by zero. -/
def score (A P : Fin 4096 → Fin 16 → EReal) (r k : Fin 4096) : EReal := if k = r then 0 else dot (unit (A r)) (unit (P k))

end Cert.Loss

namespace Cert.ReferenceIdeal.Block
open Cert.ReferenceIdeal Cert.ReferenceIdeal.Gen Cert.ReferenceIdeal.Value Cert.Loss

variable (V0 : Valuation τ sig (Elt Ideal))

/-- The rows of the anchors and of the positives. -/
def rowsA (r : Fin 4096) (d : Fin 16) : EReal := V0 (Proc.devRef .tc main_arg0) (ix2 r d)
def rowsP (r : Fin 4096) (d : Fin 16) : EReal := V0 (Proc.devRef .tc main_arg1) (ix2 r d)

/-- Each row over its length. -/
def units (x : FVec Ideal S4096x16 .f32) : FVec Ideal S4096x16 .f32 :=
  Host.divf x (broadcastInDim S4096x16 ![0, 1] bcast_S4096x1_S4096x16_0_1 (Host.sqrt (broadcastInDim S4096x1 ![0] bcast_S4096_S4096x1_0
    (Host.reduceAdd (mulf x x) (constant S_ .f32 0x00000000#32) reducesTo_S4096x16_S4096_d1 h_S_))))

/-- Each row of `units` is the unit vector of its row. -/
theorem units_apply (x : FVec Ideal S4096x16 .f32) (r : Fin 4096) (d : Fin 16) :
    units x (ix2 r d) = unit (fun d => x (ix2 r d)) d := by
  unfold units unit nrm
  pointwise

/-- The positives' unit vectors. -/
theorem v5_apply (k : Fin 4096) (d : Fin 16) : res_main_v5 V0 (ix2 k d) = unit (rowsP V0 k) d :=
  units_apply _ k d

/-- One where the row is not the column's, zero where it is. -/
def offDiag : FVec Ideal S4096x4096 .f32 :=
  subf (broadcastInDim S4096x4096 ![] bcast_S_S4096x4096 (constant S_ .f32 0x3F800000#32)) (uitofp .f32 (cmpi .eq (addi (iotaInDim S4096x4096 32 0)
    (broadcastInDim S4096x4096 ![] bcast_S_S4096x4096 (constantI S_ 32 0#32))) (iotaInDim S4096x4096 32 1)))

/-- It is zero on the diagonal and one elsewhere. -/
theorem offDiag_apply (r k : Fin 4096) : offDiag (ix2 r k) = if k = r then 0 else 1 := by
  have h : IntOp.cmpi .eq (IntOp.addi (BitVec.ofNat 32 r.val) 0#32) (BitVec.ofNat 32 k.val) = if k = r then 1#1 else 0#1 := by
    rw [show IntOp.addi (BitVec.ofNat 32 r.val) 0#32 = BitVec.ofNat 32 r.val from BitVec.add_zero _]
    by_cases h : k = r
    · subst h
      rw [if_pos rfl]
      exact IntOp.cmpi_eq.2 rfl
    · rw [if_neg h]
      have bit : ∀ b : BitVec 1, b ≠ 1#1 → b = 0#1 := by decide
      refine bit _ fun e => h (Fin.ext ?_)
      have e' := congrArg BitVec.toNat (IntOp.cmpi_eq.1 e)
      simp only [BitVec.toNat_ofNat] at e'
      omega
  have e : offDiag (ix2 r k) = 1 - FloatOps.uitofp (F := Ideal) FTy.f32
        (IntOp.cmpi CmpIPredicate.eq (IntOp.addi (BitVec.ofNat 32 r.val) 0#32) (BitVec.ofNat 32 k.val)) := by
    unfold offDiag
    pointwise
  rw [e, h]
  show (1 : EReal) - (((if k = r then 1#1 else 0#1 : BitVec 1).toNat : ℝ) : EReal) = _
  by_cases h : k = r
  · rw [if_pos h, if_pos h, show ((((1#1 : BitVec 1).toNat : ℝ)) : EReal) = ((1 : ℝ) : EReal) by norm_num, ← EReal.coe_one, ← EReal.coe_sub,
      sub_self, EReal.coe_zero]
  · rw [if_neg h, if_neg h]
    norm_num

/-- The matrix of similarities of two lists of rows, its diagonal multiplied by zero. -/
def mat (a p : FVec Ideal S4096x16 .f32) : FVec Ideal S4096x4096 .f32 :=
  mulf (Host.dotGeneral (F := Ideal) (φ₁ := .f32) (φ₂ := .f32) dot_S4096x16_S16x4096_S4096x4096_1_0_0_1_n_n none (units a)
    (transpose S16x4096 [1, 0] (units p) transposes_S4096x16_S16x4096_1_0)) offDiag

/-- Its entries are the scores. -/
theorem mat_apply (a p : FVec Ideal S4096x16 .f32) (r k : Fin 4096) :
    mat a p (ix2 r k) = score (fun r d => a (ix2 r d)) (fun r d => p (ix2 r d)) r k := by
  have e : ∀ x : FVec Ideal S4096x16 .f32, ∀ y : FVec Ideal S4096x16 .f32, Host.dotGeneral (F := Ideal) (φ₁ := .f32) (φ₂ := .f32) dot_S4096x16_S16x4096_S4096x4096_1_0_0_1_n_n none x
      (transpose S16x4096 [1, 0] y transposes_S4096x16_S16x4096_1_0) (ix2 r k) = ∑ d : Fin 16, x (ix2 r d) * y (ix2 k d) := by
    intro x y
    pointwise
  unfold mat
  rw [ValueIdx.mulf_apply, e, offDiag_apply]
  simp only [units_apply]
  unfold score
  by_cases h : k = r
  · rw [if_pos h, if_pos h, mul_zero]
  · rw [if_neg h, if_neg h, mul_one]
    rfl

/-- The reference's matrix holds the scores. -/
theorem v16_apply (r k : Fin 4096) : res_main_v16 V0 (ix2 r k) = score (rowsA V0) (rowsP V0) r k := by
  have h : res_main_v16 V0 = mat (V0 (Proc.devRef .tc main_arg0)) (V0 (Proc.devRef .tc main_arg1)) := by rfl
  rw [h]
  exact mat_apply _ _ r k

end Cert.ReferenceIdeal.Block
end
-- ==== Proof.RefPick.lean ====
module

public import proofs.«01_k».proof.Proof.RefUnit
public import Idealize.ShloMosaic.Lib.Routing.Ops
public import Idealize.ShloMosaic.Lib.Routing.OpsPair
public import Idealize.ShloMosaic.Lib.ReduceAll

/-! # The rows the reference picks

Entry `4 r + j` of the reference's long list is the positive row of anchor `r`'s `j`-th greatest similarity. -/

@[expose] public section
set_option maxRecDepth 16384
noncomputable section

open Idealize.ShloMosaic Idealize.ShloMosaic.TcCoe Idealize.SL.Sem

namespace Cert.ReferenceIdeal.Block
open Cert.ReferenceIdeal Cert.ReferenceIdeal.Gen Cert.ReferenceIdeal.Value Cert.Loss

variable (V0 : Valuation τ sig (Elt Ideal))

/-- The place of anchor `r`'s `j`-th pick in the long list. -/
def at4 (r : Fin 4096) (j : Fin 4) : Fin 16384 := ⟨r.val * 4 + j.val, by omega⟩

/-- The positive row that is anchor `r`'s `j`-th pick. -/
def pick (A P : Fin 4096 → Fin 16 → EReal) (r : Fin 4096) (j : Fin 4) : Fin 4096 := ord (score A P r) ⟨j.val, by omega⟩

/-- The pick's row number, as a word. -/
theorem v17_apply (r : Fin 4096) (j : Fin 4) :
    res_main_v17 V0 (ix1 (at4 r j)) = BitVec.ofNat 32 (pick (rowsA V0) (rowsP V0) r j).val := by
  unfold res_main_v17
  refine (Routing.cast21 _ _ r j (at4 r j) rfl).trans ?_
  refine (topK_idx 4 (by omega) (res_main_v16 V0) sliceFits_S4096x4096_S4096x4 r j).trans ?_
  refine congrArg (fun w => BitVec.ofNat 32 (ord w _).val) (funext fun k => v16_apply V0 r k)

/-- The word of a row number is that number. -/
theorem word_lt (k : Fin 4096) : (BitVec.ofNat 32 k.val).toNat = k.val := by
  rw [BitVec.toNat_ofNat]
  omega

/-- The index is in range, so that nothing is added to it. -/
theorem idx_apply (r : Fin 4096) (j : Fin 4) :
    res_main_call2_v5 V0 (ix2 (at4 r j) 0) = BitVec.ofNat 32 (pick (rowsA V0) (rowsP V0) r j).val := by
  have h : ∀ v : IVec S16384 32, broadcastInDim S16384x1 ![0] bcast_S16384_S16384x1_0 (select (cmpi .slt v (broadcastInDim S16384 ![] bcast_S_S16384 (constantI S_ 32 0#32))) (addi v (broadcastInDim S16384 ![] bcast_S_S16384 (constantI S_ 32 4096#32))) v) (ix2 (at4 r j) 0)
      = Scalar.select (IntOp.cmpi .slt (v (ix1 (at4 r j))) 0#32) (IntOp.addi (v (ix1 (at4 r j))) 4096#32) (v (ix1 (at4 r j))) := by
    intro v
    pointwise
  unfold res_main_call2_v5
  refine (h _).trans ?_
  rw [v17_apply]
  refine Routing.wrap_of_lt _ _ ?_
  rw [word_lt]
  omega

/-- Every pick is a row's number. -/
theorem inside_apply (q : Fin 16384) :
    Host.reduce IntOp.andi (andi (cmpi .sge (res_main_call2_v5 V0) (broadcastInDim S16384x1 ![] bcast_S_S16384x1 (constantI S_ 32 0#32))) (cmpi .sle (res_main_call2_v5 V0) (broadcastInDim S16384x1 ![0, 1] bcast_S1x1_S16384x1_0_1 (broadcastInDim S1x1 ![1] bcast_S1_S1x1_1 (constantI S1 32 4095#32))))) (constantI S_ 1 1#1) reducesTo_S16384x1_S16384_d1 h_S_ (ix1 q) = 1#1 := by
  refine Host.reduce_andi_one _ _ _ _ _ rfl fun i => ?_
  obtain ⟨p, z, rfl⟩ : ∃ (p : Fin 16384) (z : Fin 1), i = ix2 p z := ⟨i 0, i 1, by funext a; match a with | ⟨0, _⟩ => rfl | ⟨1, _⟩ => rfl⟩
  obtain rfl : z = 0 := Subsingleton.elim _ _
  have hp : p = at4 ⟨p.val / 4, by omega⟩ ⟨p.val % 4, by omega⟩ := Fin.ext (by show p.val = p.val / 4 * 4 + p.val % 4; omega)
  have h : ∀ v : IVec S16384x1 32, andi (cmpi .sge v (broadcastInDim S16384x1 ![] bcast_S_S16384x1 (constantI S_ 32 0#32))) (cmpi .sle v (broadcastInDim S16384x1 ![0, 1] bcast_S1x1_S16384x1_0_1 (broadcastInDim S1x1 ![1] bcast_S1_S1x1_1 (constantI S1 32 4095#32)))) (ix2 p 0)
      = IntOp.andi (IntOp.cmpi .sge (v (ix2 p 0)) 0#32) (IntOp.cmpi .sle (v (ix2 p 0)) 4095#32) := by
    intro v
    pointwise
  refine (h _).trans ?_
  rw [hp, idx_apply]
  generalize pick _ _ _ _ = k
  have e1 : IntOp.cmpi .sge (BitVec.ofNat 32 k.val) 0#32 = 1#1 := by
    rw [IntOp.cmpi_sge, StableHlo.Predicate.toInt_ofNat_small k.val (by omega)]
    exact Int.natCast_nonneg _
  have e2 : IntOp.cmpi .sle (BitVec.ofNat 32 k.val) 4095#32 = 1#1 := by
    rw [IntOp.cmpi_sle, StableHlo.Predicate.toInt_ofNat_small _ (by omega)]
    show (k.val : ℤ) ≤ 4095
    omega
  rw [e1, e2]
  rfl

/-- The picked row's unit vector. -/
theorem v18_apply (r : Fin 4096) (j : Fin 4) (d : Fin 16) :
    res_main_v18 V0 (ix2 (at4 r j) d) = unit (rowsP V0 (pick (rowsA V0) (rowsP V0) r j)) d := by
  have h : ∀ (b : IVec S16384 1) (x y : FVec Ideal S16384x16 .f32), b (ix1 (at4 r j)) = 1#1 →
      select (broadcastInDim S16384x16 ![0] bcast_S16384_S16384x16_0 b) x y (ix2 (at4 r j) d) = x (ix2 (at4 r j) d) := by
    intro b x y hb
    rw [ValueIdx.select_apply]
    have : broadcastInDim S16384x16 ![0] bcast_S16384_S16384x16_0 b (ix2 (at4 r j) d) = b (ix1 (at4 r j)) := by pointwise
    rw [this, hb]
    rfl
  unfold res_main_v18
  refine (h _ _ _ (inside_apply V0 _)).trans ?_
  refine (Routing.gather_row gather_S4096x16_S16384x1_S16384x16_1_0_n_n_0_1_116 rfl rfl rfl rfl rfl _ _ (at4 r j) d
    (pick (rowsA V0) (rowsP V0) r j) (idx_apply V0 r j) (by norm_num)).trans ?_
  exact v5_apply V0 _ d

/-- The anchor's row beside each of its picks. -/
theorem v22_apply (r : Fin 4096) (j : Fin 4) (d : Fin 16) : res_main_v22 V0 (ix2 (at4 r j) d) = rowsA V0 r d := by
  unfold res_main_v22
  refine (shapeCast_apply _ _ _ (ix3 r j d) ?_).trans ?_
  · show ((⟨3, ![4096, 4, 16]⟩ : Shape).rowMajor (ix3 r j d)).val = ((⟨2, ![16384, 16]⟩ : Shape).rowMajor (ix2 (at4 r j) d)).val
    rw [Shape.rowMajor_val_two, Shape.rowMajor_val_three]
    rfl
  refine (shapeCast_apply _ _ _ (ix4 r 0 j d) ?_).trans ?_
  · rw [Shape.rowMajor_val_four, Shape.rowMajor_val_three]
    show ((r.val * 1 + 0) * 4 + j.val) * 16 + d.val = (r.val * 4 + j.val) * 16 + d.val
    omega
  have h : ∀ x : FVec Ideal S4096x16 .f32, broadcastInDim S4096x1x4x16 ![0, 1, 3] bcast_S4096x1x16_S4096x1x4x16_0_1_3 (broadcastInDim S4096x1x16 ![0, 2] bcast_S4096x16_S4096x1x16_0_2 x) (ix4 r 0 j d) = x (ix2 r d) := by
    intro x
    pointwise
  exact h _

end Cert.ReferenceIdeal.Block
end
-- ==== Proof.RefLoss.lean ====
module

public import proofs.«01_k».proof.Proof.RefPick
public import Idealize.ShloMosaic.Lib.Pipeline.ValueKit

/-! # The reference's result as one sum over the anchor rows -/

@[expose] public section
set_option maxRecDepth 16384
noncomputable section

open Idealize.ShloMosaic Idealize.ShloMosaic.TcCoe Idealize.SL.Sem

namespace Cert.ReferenceIdeal.Block
open Cert.ReferenceIdeal Cert.ReferenceIdeal.Gen Cert.ReferenceIdeal.Value Cert.Loss

/-- One loss term of the reference: its similarity `x` and its label `z`. -/
def term (x z : EReal) : EReal := max x 0 - x * z + Ideal.log1p (Ideal.exp (0 - FloatOps.absf (F := Ideal) (φ := .f32) x))

/-- The long list of similarities: the positive pairs first, the picks after them. -/
def both (x : FVec Ideal S4096 .f32) (y : FVec Ideal S16384 .f32) : FVec Ideal S20480 .f32 :=
  concatenate S20480 0 [⟨S4096, x⟩, ⟨S16384, y⟩] concatenates_S4096_S16384_S20480_d0

/-- The mean of the terms' losses. -/
def total (w z : FVec Ideal S20480 .f32) : FVec Ideal S1x1 .f32 :=
  shapeCast _ (Host.divf (Host.reduceAdd (addf (subf (maximumf w (broadcastInDim S20480 ![] bcast_S_S20480 (constant S_ .f32 0x00000000#32))) (mulf w z)) (Host.log1p (Host.exp (Host.negf (Host.absf w))))) (constant S_ .f32 0x00000000#32) reducesTo_S20480_S_d0 h_S_) (constant S_ .f32 0x46A00000#32)) shapeCasts_S_S1x1

/-- It is their sum over their number. -/
theorem total_apply (w z : FVec Ideal S20480 .f32) : total w z (ix2 0 0) = Ideal.div (∑ n : Fin 20480, term (w (ix1 n)) (z (ix1 n))) cnt := by
  have e : ∀ x : EReal, -x = 0 - x := fun x => by rw [sub_eq_add_neg, zero_add]
  unfold total
  pointwise
  simp only [e]
  rfl

/-- A sum over the long list is one over the pairs and one over the picks. -/
theorem sum_both (f : EReal → EReal → EReal) (x x' : FVec Ideal S4096 .f32) (y y' : FVec Ideal S16384 .f32) :
    ∑ n : Fin 20480, f (both x y (ix1 n)) (both x' y' (ix1 n)) = ∑ r : Fin 4096, f (x (ix1 r)) (x' (ix1 r)) + ∑ q : Fin 16384, f (y (ix1 q)) (y' (ix1 q)) := by
  unfold both
  pointwise

/-- A sum over the picks is one over the anchors and each anchor's four. -/
theorem sum_at4 (f : Fin 16384 → EReal) : ∑ q, f q = ∑ r, ∑ j, f (at4 r j) := by
  have h := Fin.sum_univ_univ_mul_add 4096 4 fun n => if h : n < 16384 then f ⟨n, h⟩ else 0
  have e1 : ∀ (r : Fin 4096) (j : Fin 4), (if h : r.val * 4 + j.val < 16384 then f ⟨r.val * 4 + j.val, h⟩ else 0)
      = f (at4 r j) := fun r j => dif_pos (at4 r j).isLt
  have e2 : ∀ l : Fin (4096 * 4), (if h : l.val < 16384 then f ⟨l.val, h⟩ else 0) = f l := fun l => dif_pos l.isLt
  simp only [e1, e2] at h
  exact h.symm

/-- The similarity of a row with another, over a list of row pairs. -/
def sims4096 (x y : FVec Ideal S4096x16 .f32) : FVec Ideal S4096 .f32 :=
  Host.divf (Host.reduceAdd (mulf x y) (constant S_ .f32 0x00000000#32) reducesTo_S4096x16_S4096_d1 h_S_) (maximumf (broadcastInDim S4096 ![] bcast_S_S4096 (id (constant S_ .f32 0x322BCC77#32))) (mulf (Host.sqrt (Host.reduceAdd (mulf x x) (constant S_ .f32 0x00000000#32) reducesTo_S4096x16_S4096_d1 h_S_)) (Host.sqrt (Host.reduceAdd (mulf y y) (constant S_ .f32 0x00000000#32) reducesTo_S4096x16_S4096_d1 h_S_))))

/-- The same, over the list of picks. -/
def sims16384 (x y : FVec Ideal S16384x16 .f32) : FVec Ideal S16384 .f32 :=
  Host.divf (Host.reduceAdd (mulf x y) (constant S_ .f32 0x00000000#32) reducesTo_S16384x16_S16384_d1 h_S_) (maximumf (broadcastInDim S16384 ![] bcast_S_S16384 (id (constant S_ .f32 0x322BCC77#32))) (mulf (Host.sqrt (Host.reduceAdd (mulf x x) (constant S_ .f32 0x00000000#32) reducesTo_S16384x16_S16384_d1 h_S_)) (Host.sqrt (Host.reduceAdd (mulf y y) (constant S_ .f32 0x00000000#32) reducesTo_S16384x16_S16384_d1 h_S_))))

/-- A pair's similarity. -/
theorem sims4096_apply (x y : FVec Ideal S4096x16 .f32) (r : Fin 4096) :
    sims4096 x y (ix1 r) = cosine (fun d => x (ix2 r d)) (fun d => y (ix2 r d)) := by
  unfold sims4096 cosine dot nrm eps
  pointwise
  rfl

/-- A pick's similarity. -/
theorem sims16384_apply (x y : FVec Ideal S16384x16 .f32) (q : Fin 16384) :
    sims16384 x y (ix1 q) = cosine (fun d => x (ix2 q d)) (fun d => y (ix2 q d)) := by
  unfold sims16384 cosine dot nrm eps
  pointwise
  rfl

/-- The reference's result: the losses of the positive pairs and of each anchor's four picks, over the number of terms. -/
def refLoss (A P : Fin 4096 → Fin 16 → EReal) : EReal :=
  Ideal.div (∑ r, term (cosine (A r) (P r)) 1 + ∑ r, ∑ j, term (cosine (A r) (unit (P (pick A P r j)))) 0) cnt

variable (V0 : Valuation τ sig (Elt Ideal))

/-- The reference's array. -/
def result : FVec Ideal S1x1 .f32 :=
  shapeCast S1x1 (Host.divf (Host.reduceAdd (addf (subf (maximumf (res_main_v37 V0) (broadcastInDim S20480 ![] bcast_S_S20480 (constant S_ .f32 0x00000000#32))) (mulf (res_main_v37 V0) (concatenate S20480 0 [⟨S4096, (broadcastInDim S4096 ![] bcast_S_S4096 (constant S_ .f32 0x3F800000#32))⟩, ⟨S16384, (broadcastInDim S16384 ![] bcast_S_S16384 (constant S_ .f32 0x00000000#32))⟩] concatenates_S4096_S16384_S20480_d0))) (Host.log1p (Host.exp (Host.negf (Host.absf (res_main_v37 V0)))))) (constant S_ .f32 0x00000000#32) reducesTo_S20480_S_d0 h_S_) (constant S_ .f32 0x46A00000#32)) shapeCasts_S_S1x1

/-- WHAT THE REFERENCE'S ARRAY HOLDS: the loss of its two arguments. -/
theorem reference_value : result V0 (ix2 0 0) = refLoss (rowsA V0) (rowsP V0) := by
  have h37 : res_main_v37 V0 = both (sims4096 (V0 (Proc.devRef .tc main_arg0)) (V0 (Proc.devRef .tc main_arg1))) (sims16384 (res_main_v22 V0) (res_main_v18 V0)) := by rfl
  refine (total_apply (res_main_v37 V0) (both (broadcastInDim S4096 ![] bcast_S_S4096 (constant S_ .f32 0x3F800000#32)) (broadcastInDim S16384 ![] bcast_S_S16384 (constant S_ .f32 0x00000000#32)))).trans ?_
  have h1 : ∀ r : Fin 4096, broadcastInDim S4096 ![] bcast_S_S4096 (constant (F := Ideal) S_ .f32 0x3F800000#32) (ix1 r) = 1 := by
    intro r
    pointwise
  have h0 : ∀ r : Fin 16384, broadcastInDim S16384 ![] bcast_S_S16384 (constant (F := Ideal) S_ .f32 0x00000000#32) (ix1 r) = 0 := by
    intro r
    pointwise
  rw [h37, sum_both term, sum_at4]
  unfold refLoss
  simp only [h1, h0, sims4096_apply, sims16384_apply, v22_apply, v18_apply]
  rfl

end Cert.ReferenceIdeal.Block
end
-- ==== Proof.PreRead.lean ====
module

public import proofs.«01_k».proof.Proof.RefUnit
public import proofs.«01_k».proof.Proof.Gen.Pre_unambiguous
public import Idealize.ShloMosaic.Lib.ReduceAll

/-! # What the precondition says of the rows -/

@[expose] public section
set_option maxRecDepth 16384
noncomputable section

open Idealize.ShloMosaic Idealize.ShloMosaic.TcCoe Idealize.SL.Sem

namespace Cert.Loss

/-- The precondition, of rows: lengths finite, an anchor's length and its product with its positive's at least `eps`,
    and the five greatest scores of each row five different numbers. -/
structure Sized (A P : Fin 4096 → Fin 16 → EReal) : Prop where
  anchor : ∀ r, eps ≤ nrm (A r)
  anchor_fin : ∀ r, nrm (A r) < ⊤
  pair : ∀ r, eps ≤ nrm (A r) * nrm (P r)
  positive_fin : ∀ r, nrm (P r) < ⊤
  apart : ∀ r (j : Fin 4), score A P r (ord (score A P r) ⟨j.val + 1, by omega⟩) < score A P r (ord (score A P r) ⟨j.val, by omega⟩)

end Cert.Loss

namespace Cert.Pre_unambiguous.Read
open Cert.Pre_unambiguous Cert.Pre_unambiguous.Gen Cert.Loss

/-- Every bit of a vector, as one. -/
def all (x : IVec S4096 1) : IVec S_ 1 := Host.reduce IntOp.andi x (constantI S_ 1 1#1) reducesTo_S4096_S_d0 h_S_

/-- One number, for every row. -/
def spread (b : BitVec 32) : FVec Ideal S4096 .f32 := broadcastInDim S4096 ![] bcast_S_S4096 (constant S_ .f32 b)

/-- The five greatest scores of each row. -/
def five (a p : FVec Ideal S4096x16 .f32) : FVec Ideal S4096x5 .f32 :=
  (Host.topK S4096x5 1 (FloatOps.cmpfTotal .gt) (Cert.ReferenceIdeal.Block.mat a p) sliceFits_S4096x4096_S4096x5).1

/-- Whether each of the five is above the next. -/
def falling (x : FVec Ideal S4096x5 .f32) : IVec S4096x4 1 :=
  cmpf .ogt (extractStridedSlice S4096x4 ![0, 0] x slices_S4096x5_S4096x4_0_0) (extractStridedSlice S4096x4 ![0, 1] x slices_S4096x5_S4096x4_0_1)

/-- The precondition, as the conjunction of its five conditions. -/
theorem fn_eq (a p : FVec Ideal S4096x16 .f32) : fn (F := Ideal) a p =
    andi (andi (andi (andi (all (cmpf .oge (fn_norm a) (spread 0x322BCC77#32))) (all (cmpf .olt (fn_norm a) (spread 0x7F800000#32))))
      (all (cmpf .oge (mulf (fn_norm a) (fn_norm p)) (spread 0x322BCC77#32)))) (all (cmpf .olt (fn_norm p) (spread 0x7F800000#32))))
      (Host.reduce IntOp.andi (falling (five a p)) (constantI S_ 1 1#1) reducesTo_S4096x4_S_d0_1 h_S_) := by
  rfl

/-- A row's length. -/
theorem norm_apply (a : FVec Ideal S4096x16 .f32) (r : Fin 4096) : fn_norm a (ix1 r) = nrm fun d => a (ix2 r d) := by
  unfold fn_norm nrm
  pointwise

/-- The number, at a row. -/
theorem spread_apply (b : BitVec 32) (r : Fin 4096) : spread b (ix1 r) = Ideal.ofBits .f32 b := by
  unfold spread
  pointwise

/-- Where every bit is one, each is. -/
theorem all_read (x : IVec S4096 1) (h : all x ix0 = 1#1) (r : Fin 4096) : x (ix1 r) = 1#1 :=
  Host.reduce_andi_all (t := S_) _ _ _ _ _ h _

/-- Where a conjunction is one, both its parts are. -/
theorem and_read (x y : IVec S_ 1) (h : andi x y ix0 = 1#1) : x ix0 = 1#1 ∧ y ix0 = 1#1 := by
  have : ∀ a b : BitVec 1, a &&& b = 1#1 → a = 1#1 ∧ b = 1#1 := by decide
  exact this _ _ h

/-- A comparison `≥` read back. -/
theorem oge_read (x y : EReal) (h : FloatOps.cmpf (F := Ideal) (φ := .f32) .oge x y = 1#1) : y ≤ x := by
  rw [Ideal.cmpf_def] at h
  by_contra h'
  simp [Ideal.cmp, h'] at h

/-- A comparison `<` read back. -/
theorem olt_read (x y : EReal) (h : FloatOps.cmpf (F := Ideal) (φ := .f32) .olt x y = 1#1) : x < y := by
  rw [Ideal.cmpf_def] at h
  by_contra h'
  simp [Ideal.cmp, h'] at h

/-- A comparison `>` read back. -/
theorem ogt_read (x y : EReal) (h : FloatOps.cmpf (F := Ideal) (φ := .f32) .ogt x y = 1#1) : y < x := by
  rw [Ideal.cmpf_def] at h
  by_contra h'
  simp [Ideal.cmp, h'] at h

/-- The word of infinity. -/
theorem inf_eq : Ideal.ofBits .f32 0x7F800000#32 = ⊤ := by
  simp [Ideal.ofBits, Ideal.ieee]

/-- The comparison of the `j`-th with the next. -/
theorem falling_apply (x : FVec Ideal S4096x5 .f32) (r : Fin 4096) (j : Fin 4) :
    falling x (ix2 r j) = FloatOps.cmpf (F := Ideal) (φ := .f32) .ogt (x (ix2 r ⟨j.val, by omega⟩)) (x (ix2 r ⟨j.val + 1, by omega⟩)) := by
  unfold falling
  rw [ValueIdx.cmpf_apply]
  refine congrArg₂ (FloatOps.cmpf (F := Ideal) (φ := .f32) .ogt) (congrArg x (funext fun a => Fin.ext ?_)) (congrArg x (funext fun a => Fin.ext ?_))
  · match a with
    | ⟨0, _⟩ => exact Nat.zero_add _
    | ⟨1, _⟩ => exact Nat.zero_add _
  · match a with
    | ⟨0, _⟩ => exact Nat.zero_add _
    | ⟨1, _⟩ => exact Nat.add_comm _ _

/-- The `j`-th greatest score of a row. -/
theorem five_apply (a p : FVec Ideal S4096x16 .f32) (r : Fin 4096) (j : Fin 5) : five a p (ix2 r j)
    = score (fun r d => a (ix2 r d)) (fun r d => p (ix2 r d)) r (ord (score (fun r d => a (ix2 r d)) (fun r d => p (ix2 r d)) r) ⟨j.val, by omega⟩) := by
  unfold five
  refine (topK_val 5 (by omega) (Cert.ReferenceIdeal.Block.mat a p) sliceFits_S4096x4096_S4096x5 r j).trans ?_
  rw [Cert.ReferenceIdeal.Block.mat_apply]
  refine congrArg (fun w => score _ _ r (ord w _)) (funext fun k => Cert.ReferenceIdeal.Block.mat_apply a p r k)

/-- The precondition read back. -/
theorem sized (a p : FVec Ideal S4096x16 .f32) (h : fn (F := Ideal) a p = fun _ => 1#1) :
    Sized (fun r d => a (ix2 r d)) (fun r d => p (ix2 r d)) := by
  rw [fn_eq] at h
  obtain ⟨h, h5⟩ := and_read _ _ (congrFun h ix0)
  obtain ⟨h, h4⟩ := and_read _ _ h
  obtain ⟨h, h3⟩ := and_read _ _ h
  obtain ⟨h1, h2⟩ := and_read _ _ h
  refine ⟨fun r => ?_, fun r => ?_, fun r => ?_, fun r => ?_, fun r j => ?_⟩
  · have e := oge_read _ _ (all_read _ h1 r)
    rwa [norm_apply, spread_apply] at e
  · have e := olt_read _ _ (all_read _ h2 r)
    rwa [norm_apply, spread_apply, inf_eq] at e
  · have e := oge_read _ _ (all_read _ h3 r)
    rwa [ValueIdx.mulf_apply, norm_apply, norm_apply, spread_apply] at e
  · have e := olt_read _ _ (all_read _ h4 r)
    rwa [norm_apply, spread_apply, inf_eq] at e
  · have e : falling (five a p) (ix2 r j) = 1#1 := Host.reduce_andi_all (t := S_) _ _ _ _ _ h5 _
    rw [falling_apply] at e
    have e := ogt_read _ _ e
    rwa [five_apply, five_apply] at e

end Cert.Pre_unambiguous.Read
end
-- ==== Proof.Select.lean ====
module

public import proofs.«01_k».proof.Proof.Order

/-! # The kernel's repeated maxima are the greatest entries in order

A row's similarities are `d`; the reference ranks them with the row's own replaced by zero, the kernel takes maxima
with the row's own replaced by `neg`. Where the five greatest are apart, both sum the same losses. -/

@[expose] public section
set_option maxRecDepth 16384
noncomputable section

open Idealize.ShloMosaic

namespace Cert.Loss

/-- Maxima start from the least extended real. -/
theorem bot_eq : bot = ⊥ := by
  simp [bot, Ideal.ofBits, Ideal.ieee]

/-- `neg` is a number below `-1`. -/
theorem neg_lt : neg < ((-1 : ℝ) : EReal) := by
  have h : neg = ((-(202 * 2 ^ 92) : ℝ) : EReal) := by
    simp [neg, Ideal.ofBits, Ideal.ieee]
  rw [h, EReal.coe_lt_coe_iff]
  norm_num

/-- The masked value is negative. -/
theorem neg_neg : neg < 0 := neg_lt.trans (by rw [← EReal.coe_zero, EReal.coe_lt_coe_iff]; norm_num)

/-- The greatest of a list of entries is the one that bounds the others. -/
theorem fold_eq_of_max (f : Fin 4096 → EReal) (a : Fin 4096) (h : ∀ k, f k ≤ f a) : Finset.univ.fold max bot f = f a :=
  le_antisymm ((Finset.fold_max_le _).2 ⟨bot_eq ▸ bot_le, fun k _ => h k⟩) ((Finset.le_fold_max _).2 (Or.inr ⟨a, Finset.mem_univ _, le_rfl⟩))

/-- The greatest entry below `v` is the one that bounds all the others below `v`. -/
theorem next_eq (w : Fin 4096 → EReal) (v : EReal) (b : Fin 4096) (hb : w b < v) (hn : neg ≤ w b) (h : ∀ k, w k < v → w k ≤ w b) :
    next w v = w b := by
  unfold next
  refine (fold_eq_of_max _ b fun k => ?_).trans (if_pos hb)
  rw [if_pos hb]
  split
  · exact h k ‹_›
  · exact hn

/-- The first three maxima of a row whose greatest entries are at `b0`, `b1` and `b2`. -/
theorem three (w : Fin 4096 → EReal) (b0 b1 b2 : Fin 4096) (h01 : w b1 < w b0) (h12 : w b2 < w b1) (hn : ∀ k, neg ≤ w k)
    (h : ∀ k, k = b0 ∨ k = b1 ∨ w k ≤ w b2) : top w = w b0 ∧ next w (w b0) = w b1 ∧ next w (w b1) = w b2 := by
  refine ⟨fold_eq_of_max _ _ fun k => ?_, next_eq _ _ _ h01 (hn _) fun k hk => ?_, next_eq _ _ _ h12 (hn _) fun k hk => ?_⟩
  · rcases h k with rfl | rfl | h
    exacts [le_rfl, h01.le, h.trans (h12.trans h01).le]
  · rcases h k with rfl | rfl | h
    exacts [absurd hk (lt_irrefl _), le_rfl, h.trans h12.le]
  · rcases h k with rfl | rfl | h
    exacts [absurd hk (lt_asymm h01), absurd hk (lt_irrefl _), h]

/-- The row's own entry is not among the four greatest: they are the kernel's four. -/
theorem hard_four (x : EReal) (w : Fin 4096 → EReal) (b0 b1 b2 b3 : Fin 4096) (h01 : w b1 < w b0) (h12 : w b2 < w b1) (h23 : w b3 < w b2)
    (hn : ∀ k, neg ≤ w k) (h3 : 0 ≤ w b3) (h : ∀ k, k = b0 ∨ k = b1 ∨ k = b2 ∨ w k ≤ w b3) :
    hard x w = sp (w b0) + sp (w b1) + sp (w b2) + sp (w b3) := by
  obtain ⟨e0, e1, e2⟩ := three w b0 b1 b2 h01 h12 hn fun k => by
    rcases h k with h | h | rfl | h
    exacts [Or.inl h, Or.inr (Or.inl h), Or.inr (Or.inr le_rfl), Or.inr (Or.inr (h.trans h23.le))]
  have e3 : next w (w b2) = w b3 := next_eq _ _ _ h23 (hn _) fun k hk => by
    rcases h k with rfl | rfl | rfl | h
    exacts [absurd hk (lt_asymm (h12.trans h01)), absurd hk (lt_asymm h12), absurd hk (lt_irrefl _), h]
  unfold hard
  rw [e0, e1, e2, e3, if_neg (not_lt.2 h3)]

/-- The row's own entry is among the four greatest: the kernel's fourth maximum is negative, and it counts that entry. -/
theorem hard_three (x : EReal) (w : Fin 4096 → EReal) (b0 b1 b2 : Fin 4096) (h01 : w b1 < w b0) (h12 : w b2 < w b1)
    (hn : ∀ k, neg ≤ w k) (h : ∀ k, k = b0 ∨ k = b1 ∨ k = b2 ∨ w k ≤ w b2 ∧ w k < 0) :
    hard x w = sp (w b0) + sp (w b1) + sp (w b2) + sp x := by
  obtain ⟨e0, e1, e2⟩ := three w b0 b1 b2 h01 h12 hn fun k => by
    rcases h k with h | h | rfl | h
    exacts [Or.inl h, Or.inr (Or.inl h), Or.inr (Or.inr le_rfl), Or.inr (Or.inr h.1)]
  have e3 : next w (w b2) < 0 := by
    unfold next
    refine (Finset.fold_max_lt _).2 ⟨bot_eq ▸ EReal.bot_lt_zero, fun k _ => ?_⟩
    split
    · next hk =>
      rcases h k with rfl | rfl | rfl | h
      exacts [absurd hk (lt_asymm (h12.trans h01)), absurd hk (lt_asymm h12), absurd hk (lt_irrefl _), h.2]
    · exact neg_neg
  unfold hard
  rw [e0, e1, e2, if_pos e3]

/-- THE SELECTION: the kernel's four losses of a row are those of the four greatest entries of the reference's ranking. -/
theorem select (d D : Fin 4096 → EReal) (r : Fin 4096) (hD : ∀ k, D k = if k = r then 0 else d k) (hn : ∀ k, neg ≤ d k)
    (h : ∀ j : Fin 4, D (ord D ⟨j.val + 1, by omega⟩) < D (ord D ⟨j.val, by omega⟩)) :
    hard (d r) (fun k => if k = r then neg else d k) = ∑ j : Fin 4, sp (d (ord D ⟨j.val, by omega⟩)) := by
  have h0 := h 0
  have h1 := h 1
  have h2 := h 2
  have h3 := h 3
  have inj := ord_injective D
  have rest : ∀ k, k = ord D ⟨0, by omega⟩ ∨ k = ord D ⟨1, by omega⟩ ∨ k = ord D ⟨2, by omega⟩ ∨ k = ord D ⟨3, by omega⟩ ∨ D k ≤ D (ord D ⟨4, by omega⟩) := by
    intro k
    obtain ⟨⟨i, hi⟩, rfl⟩ := ord_surjective D k
    rcases lt_or_ge i 4 with h | h
    · interval_cases i <;> simp
    · rcases h.eq_or_lt with rfl | h
      · exact Or.inr (Or.inr (Or.inr (Or.inr le_rfl)))
      · exact Or.inr (Or.inr (Or.inr (Or.inr (ord_le D ⟨4, by omega⟩ ⟨i, hi⟩ h))))
  rw [Fin.sum_univ_four]
  change D (ord D ⟨1, by omega⟩) < D (ord D ⟨0, by omega⟩) at h0
  change D (ord D ⟨2, by omega⟩) < D (ord D ⟨1, by omega⟩) at h1
  change D (ord D ⟨3, by omega⟩) < D (ord D ⟨2, by omega⟩) at h2
  change D (ord D ⟨4, by omega⟩) < D (ord D ⟨3, by omega⟩) at h3
  show _ = sp (d (ord D ⟨0, by omega⟩)) + sp (d (ord D ⟨1, by omega⟩)) + sp (d (ord D ⟨2, by omega⟩)) + sp (d (ord D ⟨3, by omega⟩))
  generalize ord D ⟨0, by omega⟩ = s0 at *
  generalize ord D ⟨1, by omega⟩ = s1 at *
  generalize ord D ⟨2, by omega⟩ = s2 at *
  generalize ord D ⟨3, by omega⟩ = s3 at *
  generalize D (ord D ⟨4, by omega⟩) = D4 at *
  clear inj h
  have hw : ∀ k, k ≠ r → (if k = r then neg else d k) = D k := fun k hk => by rw [hD, if_neg hk, if_neg hk]
  have hd : ∀ k, k ≠ r → d k = D k := fun k hk => by rw [hD, if_neg hk]
  have hr : D r = 0 := by rw [hD, if_pos rfl]
  have hn' : ∀ k, neg ≤ if k = r then neg else d k := fun k => by
    split
    exacts [le_rfl, hn k]
  -- the three greatest entries besides the row's own, each above all that is left
  have own : ∀ b0 b1 b2 : Fin 4096, b0 ≠ r → b1 ≠ r → b2 ≠ r → D b1 < D b0 → D b2 < D b1 → D4 < D b2 → D4 < 0 →
      (∀ k, k = b0 ∨ k = b1 ∨ k = b2 ∨ k = r ∨ D k ≤ D4) →
      hard (d r) (fun k => if k = r then neg else d k) = sp (d b0) + sp (d b1) + sp (d b2) + sp (d r) := by
    intro b0 b1 b2 n0 n1 n2 h01 h12 h2 h4 hk
    rw [hd _ n0, hd _ n1, hd _ n2, ← hw _ n0, ← hw _ n1, ← hw _ n2]
    refine hard_three _ _ b0 b1 b2 (by rw [hw _ n0, hw _ n1]; exact h01) (by rw [hw _ n1, hw _ n2]; exact h12) hn' fun k => ?_
    rcases hk k with h | h | h | h | h
    · exact Or.inl h
    · exact Or.inr (Or.inl h)
    · exact Or.inr (Or.inr (Or.inl h))
    · refine Or.inr (Or.inr (Or.inr ⟨?_, ?_⟩))
      · rw [if_pos h]
        exact hn' b2
      · rw [if_pos h]
        exact neg_neg
    · by_cases e : k = r
      · refine Or.inr (Or.inr (Or.inr ⟨?_, ?_⟩))
        · rw [if_pos e]
          exact hn' b2
        · rw [if_pos e]
          exact neg_neg
      · refine Or.inr (Or.inr (Or.inr ⟨?_, ?_⟩))
        · rw [hw _ e, hw _ n2]
          exact h.trans h2.le
        · rw [hw _ e]
          exact h.trans_lt h4
  have ne : ∀ {a b : Fin 4096}, D a < D b → a ≠ b := fun h e => absurd h (e ▸ lt_irrefl _)
  by_cases r0 : r = s0
  · subst r0
    rw [own s1 s2 s3 (ne h0) (ne (h1.trans h0)) (ne (h2.trans (h1.trans h0))) h1 h2 h3 (hr ▸ h3.trans (h2.trans (h1.trans h0)))
      fun k => by rcases rest k with h | h | h | h | h <;> simp [h]]
    ac_rfl
  by_cases r1 : r = s1
  · subst r1
    rw [own s0 s2 s3 (ne h0).symm (ne h1) (ne (h2.trans h1)) (h1.trans h0) h2 h3 (hr ▸ h3.trans (h2.trans h1))
      fun k => by rcases rest k with h | h | h | h | h <;> simp [h]]
    ac_rfl
  by_cases r2 : r = s2
  · subst r2
    rw [own s0 s1 s3 (ne (h1.trans h0)).symm (ne h1).symm (ne h2) h0 (h2.trans h1) h3 (hr ▸ h3.trans h2)
      fun k => by rcases rest k with h | h | h | h | h <;> simp [h]]
    ac_rfl
  by_cases r3 : r = s3
  · subst r3
    exact own s0 s1 s2 (ne (h2.trans (h1.trans h0))).symm (ne (h2.trans h1)).symm (ne h2).symm h0 h1 (h3.trans h2) (hr ▸ h3)
      fun k => by rcases rest k with h | h | h | h | h <;> simp [h]
  have h4 : 0 ≤ D4 := by
    rcases rest r with h | h | h | h | h
    exacts [absurd h r0, absurd h r1, absurd h r2, absurd h r3, hr ▸ h]
  rw [hd s0 (Ne.symm r0), hd s1 (Ne.symm r1), hd s2 (Ne.symm r2), hd s3 (Ne.symm r3), ← hw s0 (Ne.symm r0), ← hw s1 (Ne.symm r1),
    ← hw s2 (Ne.symm r2), ← hw s3 (Ne.symm r3)]
  refine hard_four _ _ s0 s1 s2 s3 (by rw [hw _ (Ne.symm r0), hw _ (Ne.symm r1)]; exact h0) (by rw [hw _ (Ne.symm r1), hw _ (Ne.symm r2)]; exact h1)
    (by rw [hw _ (Ne.symm r2), hw _ (Ne.symm r3)]; exact h2) hn' (by rw [hw _ (Ne.symm r3)]; exact h4.trans h3.le) fun k => ?_
  rcases rest k with h | h | h | h | h
  · exact Or.inl h
  · exact Or.inr (Or.inl h)
  · exact Or.inr (Or.inr (Or.inl h))
  · exact Or.inr (Or.inr (Or.inr (by rw [h])))
  · refine Or.inr (Or.inr (Or.inr ?_))
    by_cases e : k = r
    · rw [if_pos e]
      exact hn' s3
    · rw [hw _ e, hw _ (Ne.symm r3)]
      exact h.trans h3.le

end Cert.Loss
end
-- ==== Proof.Vectors.lean ====
module

public import proofs.«01_k».proof.Proof.Select

/-! # Lengths, unit vectors and similarities of rows whose lengths are finite and positive -/

@[expose] public section
set_option maxRecDepth 16384
noncomputable section

open Idealize.ShloMosaic

namespace Cert.Loss

/-- A sum of real numbers is the sum of the extended reals that they are. -/
theorem coe_sum16 (f : Fin 16 → ℝ) : ((∑ d, f d : ℝ) : EReal) = ∑ d, (f d : EReal) :=
  map_sum (⟨⟨fun x => (x : EReal), EReal.coe_zero⟩, EReal.coe_add⟩ : ℝ →+ EReal) f Finset.univ

/-- A row of finite length is a row of real numbers. -/
theorem real_of_nrm (v : Fin 16 → EReal) (h : nrm v < ⊤) : ∃ x : Fin 16 → ℝ, v = fun d => (x d : EReal) := by
  have sq : ∀ y : EReal, 0 ≤ y * y := by
    intro y
    induction y with
    | bot => simp
    | top => simp
    | coe y => rw [← EReal.coe_mul, EReal.coe_nonneg]; exact mul_self_nonneg y
  have hd : ∀ d, v d * v d ≠ ⊤ := by
    intro d e
    have hs : ∑ d, v d * v d = ⊤ := top_le_iff.1 (e ▸ Finset.single_le_sum (f := fun d => v d * v d) (fun d _ => sq (v d)) (Finset.mem_univ d))
    unfold nrm at h
    rw [hs, Ideal.sqrt_top] at h
    exact lt_irrefl _ h
  refine ⟨fun d => (v d).toReal, funext fun d => (EReal.coe_toReal (fun e => hd d ?_) (fun e => hd d ?_)).symm⟩
  · rw [e]; rfl
  · rw [e]; rfl

/-- The length of a row of real numbers. -/
def len (x : Fin 16 → ℝ) : ℝ := Real.sqrt (∑ d, x d * x d)

/-- The length of a row of real numbers is real. -/
theorem nrm_coe (x : Fin 16 → ℝ) : nrm (fun d => (x d : EReal)) = (len x : EReal) := by
  unfold nrm len
  simp only [← EReal.coe_mul]
  rw [← coe_sum16, Ideal.sqrt_coe, if_neg (not_lt.2 (Finset.sum_nonneg fun d _ => mul_self_nonneg (x d)))]

/-- So is an inner product. -/
theorem dot_coe (x y : Fin 16 → ℝ) : dot (fun d => (x d : EReal)) (fun d => (y d : EReal)) = ((∑ d, x d * y d : ℝ) : EReal) := by
  unfold dot
  simp only [← EReal.coe_mul]
  rw [← coe_sum16]

/-- So are the entries of a unit vector. -/
theorem unit_coe (x : Fin 16 → ℝ) (h : 0 < len x) : unit (fun d => (x d : EReal)) = fun d => ((x d / len x : ℝ) : EReal) := by
  funext d
  unfold unit
  rw [nrm_coe, Ideal.div_coe h.ne', ← EReal.coe_mul, mul_one_div]

/-- The square of the length is the sum of the squares. -/
theorem len_sq (x : Fin 16 → ℝ) : len x * len x = ∑ d, x d * x d :=
  Real.mul_self_sqrt (Finset.sum_nonneg fun d _ => mul_self_nonneg (x d))

/-- A unit vector has length one. -/
theorem len_unit (x : Fin 16 → ℝ) (h : 0 < len x) : len (fun d => x d / len x) = 1 := by
  have e : ∑ d, x d / len x * (x d / len x) = 1 := by
    have : ∀ d, x d / len x * (x d / len x) = (x d * x d) / (len x * len x) := fun d => div_mul_div_comm _ _ _ _
    simp only [this]
    rw [← Finset.sum_div, ← len_sq, div_self (mul_pos h h).ne']
  unfold len at e ⊢
  rw [e, Real.sqrt_one]

/-- The inner product of two unit vectors. -/
theorem dot_unit_coe (x y : Fin 16 → ℝ) : ∑ d, x d / len x * (y d / len y) = (∑ d, x d * y d) / (len x * len y) := by
  have : ∀ d, x d / len x * (y d / len y) = (x d * y d) / (len x * len y) := fun d => div_mul_div_comm _ _ _ _
  simp only [this]
  rw [← Finset.sum_div]

/-- The guard `eps` is positive. -/
theorem eps_pos : 0 < eps := by
  have h : eps = ((11258999 * 2⁻¹ ^ 50 : ℝ) : EReal) := by
    simp [eps, Ideal.ofBits, Ideal.ieee]
  rw [h, EReal.coe_pos]
  positivity

/-- A row of a finite, positive length. -/
def Good (v : Fin 16 → EReal) : Prop := ∃ x : Fin 16 → ℝ, v = (fun d => (x d : EReal)) ∧ 0 < len x

/-- A row whose length is finite and not zero. -/
theorem good_of_nrm (v : Fin 16 → EReal) (h : nrm v < ⊤) (h0 : nrm v ≠ 0) : Good v := by
  obtain ⟨x, rfl⟩ := real_of_nrm v h
  rw [nrm_coe] at h0
  exact ⟨x, rfl, lt_of_le_of_ne (Real.sqrt_nonneg _) fun e => h0 (by rw [← e]; rfl)⟩

/-- Making a unit vector again changes nothing. -/
theorem unit_unit (v : Fin 16 → EReal) (h : Good v) : unit (unit v) = unit v := by
  obtain ⟨x, rfl, hx⟩ := h
  rw [unit_coe x hx, unit_coe _ (by rw [len_unit x hx]; exact one_pos), len_unit x hx]
  simp only [div_one]

/-- The inner product is symmetric. -/
theorem dot_comm (u v : Fin 16 → EReal) : dot u v = dot v u :=
  Finset.sum_congr rfl fun _ _ => mul_comm _ _

/-- The similarity with a unit vector is the product of the unit vectors. -/
theorem cosine_unit (u v : Fin 16 → EReal) (hu : Good u) (hv : Good v) (h : eps ≤ nrm u) : cosine u (unit v) = dot (unit u) (unit v) := by
  obtain ⟨x, rfl, hx⟩ := hu
  obtain ⟨y, rfl, hy⟩ := hv
  unfold cosine
  rw [unit_coe x hx, unit_coe y hy, dot_coe, dot_coe, nrm_coe, nrm_coe, len_unit y hy, EReal.coe_one, mul_one, max_eq_right (by rwa [nrm_coe] at h),
    Ideal.div_coe hx.ne', ← EReal.coe_mul, dot_unit_coe, mul_one_div]
  refine congrArg _ ?_
  simp only [← mul_div_assoc]
  rw [← Finset.sum_div, div_div, mul_comm (len y)]

/-- So is the similarity of two rows whose lengths have a product above the guard. -/
theorem cosine_pair (u v : Fin 16 → EReal) (hu : Good u) (hv : Good v) (h : eps ≤ nrm u * nrm v) : cosine u v = dot (unit u) (unit v) := by
  obtain ⟨x, rfl, hx⟩ := hu
  obtain ⟨y, rfl, hy⟩ := hv
  unfold cosine
  rw [unit_coe x hx, unit_coe y hy, dot_coe, dot_coe, max_eq_right h, nrm_coe, nrm_coe, ← EReal.coe_mul,
    Ideal.div_coe (mul_pos hx hy).ne', ← EReal.coe_mul, dot_unit_coe, mul_one_div]

/-- A product of unit vectors is above the kernel's masked value. -/
theorem neg_le_dot (u v : Fin 16 → EReal) (hu : Good u) (hv : Good v) : neg ≤ dot (unit u) (unit v) := by
  obtain ⟨x, rfl, hx⟩ := hu
  obtain ⟨y, rfl, hy⟩ := hv
  rw [unit_coe x hx, unit_coe y hy, dot_coe]
  refine neg_lt.le.trans (EReal.coe_le_coe_iff.2 ?_)
  have cs := Finset.sum_mul_sq_le_sq_mul_sq Finset.univ x y
  simp only [pow_two (x _), pow_two (y _)] at cs
  rw [← len_sq, ← len_sq] at cs
  rw [dot_unit_coe, le_div_iff₀ (mul_pos hx hy)]
  nlinarith [mul_pos hx hy, abs_le_of_sq_le_sq' (show (∑ d, x d * y d) ^ 2 ≤ (len x * len y) ^ 2 by nlinarith) (mul_pos hx hy).le]

end Cert.Loss
end
-- ==== Proof.Equation.lean ====
module

public import proofs.«01_k».proof.Proof.KernelSum
public import proofs.«01_k».proof.Proof.RefLoss
public import proofs.«01_k».proof.Proof.PreRead
public import proofs.«01_k».proof.Proof.Vectors

/-! # The two losses are equal -/

@[expose] public section
set_option maxRecDepth 16384
noncomputable section

open Idealize.ShloMosaic

namespace Cert.Loss
open Cert.ReferenceIdeal.Block (term refLoss pick)

/-- A term with label one is the loss of a similarity whose target is one. -/
theorem term_one (x : EReal) : term x 1 = pos x := by
  unfold term pos
  rw [mul_one]

/-- A term with label zero is the loss of a similarity whose target is zero. -/
theorem term_zero (x : EReal) : term x 0 = sp x := by
  unfold term sp
  rw [mul_zero, sub_zero]

variable {A P : Fin 4096 → Fin 16 → EReal}

/-- Every anchor row has a finite, positive length. -/
theorem Sized.good_anchor (h : Sized A P) (r : Fin 4096) : Good (A r) :=
  good_of_nrm _ (h.anchor_fin r) (eps_pos.trans_le (h.anchor r)).ne'

/-- So has every positive row. -/
theorem Sized.good_positive (h : Sized A P) (r : Fin 4096) : Good (P r) :=
  good_of_nrm _ (h.positive_fin r) fun e => by
    have := h.pair r
    rw [e, mul_zero] at this
    exact absurd this (not_le.2 eps_pos)

/-- An anchor's hard negatives: the kernel's four losses are the reference's. -/
theorem hard_eq (h : Sized A P) (r : Fin 4096) :
    hard (cosine (A r) (P r)) (masked A P r) = ∑ j, term (cosine (A r) (unit (P (pick A P r j)))) 0 := by
  have e := select (fun k => dot (unit (A r)) (unit (P k))) (score A P r) r (fun _ => rfl)
    (fun k => neg_le_dot _ _ (h.good_anchor r) (h.good_positive k)) (h.apart r)
  have hm : masked A P r = fun k => if k = r then neg else dot (unit (A r)) (unit (P k)) := funext fun k => by
    unfold masked
    rw [unit_unit _ (h.good_positive k), dot_comm]
  rw [hm, cosine_pair _ _ (h.good_anchor r) (h.good_positive r) (h.pair r), e]
  refine Finset.sum_congr rfl fun j _ => ?_
  rw [term_zero, cosine_unit _ _ (h.good_anchor r) (h.good_positive _) (h.anchor r)]
  rfl

/-- THE EQUATION: under the precondition the kernel's loss is the reference's. -/
theorem loss_eq (h : Sized A P) : kernelLoss A P = refLoss A P := by
  unfold kernelLoss refLoss
  simp only [term_one, hard_eq h]

end Cert.Loss
end
-- ==== Proof.lean ====
/- The proof of the claims of `proofs.«01_k».proof.Defs`: the three frames, and the equality of the kernel's and the
   reference's loss over the extended reals. The mathematics is in the modules under Proof/; this file assembles it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_unambiguous
public import proofs.«01_k».proof.Proof.Equation
public import Idealize.ShloMosaic.Adequacy
public import Idealize.ShloMosaic.Init

@[expose] public section

noncomputable section

namespace Cert.Proof

open Idealize.ShloMosaic Idealize.ShloMosaic.StableHlo Idealize.SL.Sem Cert.Kernel

/-- The program runs, leaves its arguments as they were and every counter at zero. -/
theorem frame_p : Cert.quiescent_Kernel := fun m ρ _ => Cert.Kernel.Gen.frame m ρ

/-- The idealized program runs, leaves its arguments as they were and every counter at zero. -/
theorem frame_pi : Cert.quiescent_KernelIdeal := fun m ρ _ => Cert.KernelIdeal.Gen.frame m ρ

/-- The reference runs and leaves its arguments as they were; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealized program's frame again, for the arguments of the precondition. -/
theorem frame_pi_pre : Cert.quiescent_KernelIdeal_pre_unambiguous := fun m ρ _ => Cert.KernelIdeal.Gen.frame m ρ

/-- So for the reference. -/
theorem frame_ri_pre : Cert.quiescent_ReferenceIdeal_pre_unambiguous := fun m ρ _ => frame_ri m ρ trivial

/-- An array of one entry is that entry. -/
theorem one_entry (x y : FVec Ideal (⟨2, ![1, 1]⟩ : Shape) .f32) (h : x (ix2 0 0) = y (ix2 0 0)) : x = y := by
  funext i
  have e : i = ix2 0 0 := by
    funext a
    match a with
    | ⟨0, _⟩ => exact Subsingleton.elim (α := Fin 1) _ _
    | ⟨1, _⟩ => exact Subsingleton.elim (α := Fin 1) _ _
  rw [e, h]

/-- The reference's array is the kernel's. -/
theorem same_loss (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_unambiguous m)
    (ea : Cert.ReferenceIdeal.Block.rowsA (launchContents m' c) = Cert.KernelIdeal.Block.rowsA m c)
    (ep : Cert.ReferenceIdeal.Block.rowsP (launchContents m' c) = Cert.KernelIdeal.Block.rowsP m c) :
    Cert.ReferenceIdeal.Block.result (launchContents m' c) = Cert.KernelIdeal.Value.G3 m c := by
  have h : Cert.Loss.Sized (Cert.KernelIdeal.Block.rowsA m c) (Cert.KernelIdeal.Block.rowsP m c) :=
    Cert.Pre_unambiguous.Read.sized _ _ (hpre c)
  refine one_entry _ _ ((Cert.ReferenceIdeal.Block.reference_value (launchContents m' c)).trans ?_)
  rw [ea, ep, ← Cert.Loss.loss_eq h]
  exact (Cert.KernelIdeal.Block.kernel_value m c).symm

/-- Over the extended reals the kernel and the reference leave the same loss. -/
theorem algebraic : Cert.algebraic_KernelIdeal_ReferenceIdeal_pre_unambiguous := fun m ρ m' ρ' hpre hargs =>
  ⟨fun c => Cert.KernelIdeal.Value.G3 m c, Cert.KernelIdeal.Value.run m ρ,
    (θ_run Cert.ReferenceIdeal.defs _ _).mono (fun _ h c => ⟨(h c).1.trans (same_loss m m' c hpre
        (funext fun r => funext fun d => congrFun (hargs c).1 (ix2 r d)) (funext fun r => funext fun d => congrFun (hargs c).2 (ix2 r d))), (h c).2⟩)
      (Cert.ReferenceIdeal.Value.run (F := Ideal) m' ρ')⟩

/-- All the claims. -/
theorem claim : Cert.Claim :=
  ⟨Cert.Kernel.Gen.facts, Cert.KernelIdeal.Gen.facts, Cert.ReferenceIdeal.Gen.facts, Cert.Pre_unambiguous.Gen.facts,
    frame_p, frame_pi, frame_pi_pre, frame_ri, frame_ri_pre, trivial, algebraic⟩

end Cert.Proof

end
